-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : IVec S128 1 := cmpf .ogt main_v0 main_v1
  let main_cst_1 : FVec F S_ .f32 := constant S_ .f32 0x7F800000#32
  let main_v3 : FVec F S128 .f32 := broadcastInDim S128 ![] bcast_S_S128 main_cst_1
  let main_v4 : IVec S128 1 := cmpf .olt main_v0 main_v3
  let main_v5 : IVec S128 1 := andi main_v2 main_v4
  let main_c : IVec S_ 1 := constantI S_ 1 1#1
  let main_v6 : IVec S_ 1 := (fun x v => Host.reduce IntOp.andi x v reducesTo_S128_S_d0 h_S_) main_v5 main_c
  main_v6
-- ==== Kernel.lean ====
abbrev S128x100000 : Shape := ⟨2, ![128, 100000]⟩
abbrev S8x2048 : Shape := ⟨2, ![8, 2048]⟩
abbrev S49x8x2048 : Shape := ⟨3, ![49, 8, 2048]⟩
abbrev S1x8x2048 : Shape := ⟨3, ![1, 8, 2048]⟩
abbrev S8 : Shape := ⟨1, ![8]⟩
abbrev S8x1 : Shape := ⟨2, ![8, 1]⟩

abbrev nBuf : Space → Nat
  | .hbm => 2
  | .vmem => 7
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S49x8x2048, .f32⟩
  | .local _ .vmem, ⟨5, _⟩ => ⟨S8x2048, .f32⟩
  | .local _ .vmem, ⟨6, _⟩ => ⟨S8x2048, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![16, 2, 49], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v206 : Index := Scalar.indexCast arg2
  let c0_45 : Index := 0#32
  let c0_46 : Index := 0#32
  ![v206.toNat, 0, 0]
def k0_cond3 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg2 : BitVec 32 := BitVec.ofNat 32 (i 2).val
  let v9 : Index := Scalar.indexCast arg2
  let c0 : Index := 0#32
  let c0_4 : Index := 0#32
  ![v9.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  ![arg0.toNat, v1.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

abbrev nBuf : Space → Nat
  | .hbm => 302
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S_, .f32⟩
  | 24 => ⟨S128x100000, .f32⟩
  | 25 => ⟨S128x100000, .f32⟩
  | 26 => ⟨S128x100000, .f32⟩
  | 27 => ⟨S128x100000, .f32⟩
  | 28 => ⟨S128x100000, .f32⟩
  | 29 => ⟨S_, .f32⟩
  | 30 => ⟨S128x100000, .f32⟩
  | 31 => ⟨S128x100000, .f32⟩
  | 32 => ⟨S_, .f32⟩
  | 33 => ⟨S128, .f32⟩
  | 34 => ⟨S_, .f32⟩
  | 35 => ⟨S128, .f32⟩
  | 36 => ⟨S128, .f32⟩
  | 37 => ⟨S128x1, .f32⟩
  | 38 => ⟨S128x100000, .f32⟩
  | 39 => ⟨S128x100000, .f32⟩
  | 40 => ⟨S128x100000, .f32⟩
  | 41 => ⟨S_, .f32⟩
  | 42 => ⟨S128, .f32⟩
  | 43 => ⟨S128x1, .f32⟩
  | 44 => ⟨S128x100000, .f32⟩
  | 45 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_cst_4 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_cst_5 : Ref sig .tc := ⟨.hbm, 285, rfl⟩
abbrev main_v16 : Ref sig .tc := ⟨.hbm, 286, rfl⟩
abbrev main_v17 : Ref sig .tc := ⟨.hbm, 287, rfl⟩
abbrev main_cst_6 : Ref sig .tc := ⟨.hbm, 288, rfl⟩
abbrev main_v18 : Ref sig .tc := ⟨.hbm, 289, rfl⟩
abbrev main_cst_7 : Ref sig .tc := ⟨.hbm, 290, rfl⟩
abbrev main_v19 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_cst_8 : Ref sig .tc := ⟨.hbm, 297, rfl⟩
abbrev main_v25 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩

abbrev nD : Nat := 1
abbrev τ : Topo := Topo.v7x

variable {F : FTy → Type} [FloatOps F]
-- ==== Proof.Threefry.lean ====
/- The random words of the Gumbel noise: twenty rounds of the Threefry-2x32 generator with the key words 0 and 42,
   counter words 0 and `n`, as a function of the counter `n` on 32-bit words. Both programs are read as `bits n`. -/
module

public import Idealize.ShloMosaic.Lib.Tactic

@[expose] public section

namespace Cert.Proof.Threefry

/-- A 32-bit word. -/
abbrev W := BitVec 32

/-- `x` rotated left by `r` bits. -/
def rot (r : ℕ) (x : W) : W := x <<< r ||| x >>> (32 - r)

/-- One round: the first word takes the sum; the second, rotated, is combined with that sum. -/
def round (r : ℕ) (p : W × W) : W × W := (p.1 + p.2, rot r p.2 ^^^ (p.1 + p.2))

/-- The addition of the key words between groups of four rounds. -/
def inject (a b : W) (p : W × W) : W × W := (p.1 + a, p.2 + b)

/-- The first, third and fifth group of four rounds. -/
def groupA (p : W × W) : W × W := round 6 (round 26 (round 15 (round 13 p)))

/-- The second and fourth group of four rounds. -/
def groupB (p : W × W) : W × W := round 24 (round 16 (round 29 (round 17 p)))

/-- The state before the first round: counter words 0 and `n` with the key words 0 and 42 added. -/
def start (n : W) : W × W := (0#32, n + 42#32)

/-- The state after the first group and its key words. -/
def mid₁ (n : W) : W × W := inject 42#32 466689009#32 (groupA (start n))
/-- The state after the second group and its key words. -/
def mid₂ (n : W) : W × W := inject 466689008#32 2#32 (groupB (mid₁ n))
/-- The state after the third group and its key words. -/
def mid₃ (n : W) : W × W := inject 0#32 45#32 (groupA (mid₂ n))
/-- The state after the fourth group and its key words. -/
def mid₄ (n : W) : W × W := inject 42#32 466689012#32 (groupB (mid₃ n))
/-- The generator's two output words at counter `n`. -/
def words (n : W) : W × W := inject 466689008#32 5#32 (groupA (mid₄ n))

/-- The random word at counter `n`: the two output words combined. -/
def bits (n : W) : W := (words n).1 ^^^ (words n).2

end Cert.Proof.Threefry

end
-- ==== Proof.Line.lean ====
/- A line of host operations in which every operation writes a buffer of its own, after those it reads: at the end each
   operation's result buffer holds its function of what its operand buffers hold at the end. So the final contents are
   described by one equation per operation, whatever their number and however often a value is used. -/
module

public import Idealize.ShloMosaic.Lib.Claim

@[expose] public section

namespace Cert.Proof.Line

open Idealize.ShloMosaic Idealize.ShloMosaic.StableHlo Idealize.SL.Sem

variable {τ : Topo} {sig : RefSig} {Val : EltTy → Type}

/-- The operation writes one buffer, numbered `n`, and what it writes depends only on buffers numbered below `n`. -/
def Step (n : ℕ) (op : HloOp τ sig Val) : Prop :=
  ∃ y : Ref sig .tc, y.idx.val = n ∧ op.writes = {Proc.devRef (τ := τ) .tc y}
    ∧ ∀ F G : Valuation τ sig Val,
      (∀ x : Ref sig .tc, x.idx.val < n → F (Proc.devRef .tc x) = G (Proc.devRef .tc x))
        → op.result F (Proc.devRef .tc y) = op.result G (Proc.devRef .tc y)

/-- The line's operations write the buffers numbered `n`, `n+1`, … in turn, each from buffers numbered lower. -/
def InOrder : ℕ → List (HloOp τ sig Val) → Prop
  | _, [] => True
  | n, op :: l => Step n op ∧ InOrder (n + 1) l

theorem Step.nullary {n : ℕ} (y : Ref sig .tc) (v : y.ty.Contents Val) (hy) (h : y.idx.val = n) :
    Step (τ := τ) n (StableHlo.nullary y v hy) :=
  ⟨y, h, nullary_writes .., fun F G _ => by rw [nullary_result, nullary_result]⟩

theorem Step.unary {n : ℕ} (x y : Ref sig .tc) (f : x.ty.Contents Val → y.ty.Contents Val) (hx hy)
    (h : y.idx.val = n) (hlt : x.idx.val < n) : Step (τ := τ) n (StableHlo.unary x y f hx hy) :=
  ⟨y, h, unary_writes .., fun F G e => by rw [unary_result, unary_result, e x hlt]⟩

theorem Step.binary {n : ℕ} (a b y : Ref sig .tc) (f : a.ty.Contents Val → b.ty.Contents Val → y.ty.Contents Val)
    (ha hb hy) (h : y.idx.val = n) (h₁ : a.idx.val < n) (h₂ : b.idx.val < n) :
    Step (τ := τ) n (StableHlo.binary a b y f ha hb hy) :=
  ⟨y, h, binary_writes .., fun F G e => by rw [binary_result, binary_result, e a h₁, e b h₂]⟩

theorem Step.reshape {n : ℕ} (x y : Ref sig .tc) (he hn hx hy) (h : y.idx.val = n) (hlt : x.idx.val < n) :
    Step (τ := τ) n (StableHlo.reshape (Val := Val) x y he hn hx hy) :=
  ⟨y, h, reshape_writes .., fun F G e => by rw [reshape_result, reshape_result, e x hlt]⟩

/-- Every operation of the line leaves the contents `V` as they are: each result buffer holds its operation's value. -/
def Settled (V : Valuation τ sig Val) (l : List (HloOp τ sig Val)) : Prop := ∀ op ∈ l, op.result V = V

theorem Settled.left {V : Valuation τ sig Val} {l₁ l₂ : List (HloOp τ sig Val)} (h : Settled V (l₁ ++ l₂)) :
    Settled V l₁ := fun op ho => h op (List.mem_append_left _ ho)

theorem Settled.right {V : Valuation τ sig Val} {l₁ l₂ : List (HloOp τ sig Val)} (h : Settled V (l₁ ++ l₂)) :
    Settled V l₂ := fun op ho => h op (List.mem_append_right _ ho)

theorem Settled.head {V : Valuation τ sig Val} {op : HloOp τ sig Val} {l : List (HloOp τ sig Val)}
    (h : Settled V (op :: l)) : op.result V = V := h op List.mem_cons_self

theorem Settled.tail {V : Valuation τ sig Val} {op : HloOp τ sig Val} {l : List (HloOp τ sig Val)}
    (h : Settled V (op :: l)) : Settled V l := fun o ho => h o (List.mem_cons_of_mem _ ho)

theorem settled_cons {V : Valuation τ sig Val} {op : HloOp τ sig Val} {l : List (HloOp τ sig Val)} :
    Settled V (op :: l) ↔ op.result V = V ∧ Settled V l := List.forall_mem_cons

theorem settled_append {V : Valuation τ sig Val} {l₁ l₂ : List (HloOp τ sig Val)} :
    Settled V (l₁ ++ l₂) ↔ Settled V l₁ ∧ Settled V l₂ := List.forall_mem_append

theorem inOrder_append : ∀ {n : ℕ} {l₁ l₂ : List (HloOp τ sig Val)}, InOrder n l₁ → InOrder (n + l₁.length) l₂ →
    InOrder n (l₁ ++ l₂)
  | _, [], _, _, h => h
  | n, _ :: l, _, ⟨s, h₁⟩, h₂ => ⟨s, inOrder_append h₁ (by
      rw [List.length_cons, ← Nat.add_assoc, Nat.add_right_comm] at h₂; exact h₂)⟩

/-- A line in order leaves the buffers numbered below its first untouched, and ends settled. -/
theorem after_inOrder : ∀ (l : List (HloOp τ sig Val)) (n : ℕ) (V : Valuation τ sig Val), InOrder n l →
    (∀ x : Ref sig .tc, x.idx.val < n → after l V (Proc.devRef .tc x) = V (Proc.devRef .tc x))
      ∧ Settled (after l V) l
  | [], _, _, _ => ⟨fun _ _ => rfl, fun _ h => nomatch h⟩
  | op :: l, n, V, ⟨⟨y, hy, hw, hf⟩, hl⟩ => by
    obtain ⟨hlow, hset⟩ := after_inOrder l (n + 1) (op.result V) hl
    have low : ∀ x : Ref sig .tc, x.idx.val < n → after (op :: l) V (Proc.devRef .tc x) = V (Proc.devRef .tc x) := by
      intro x hx
      rw [after_cons, hlow x (by omega), op.result_of_not_mem]
      rw [hw, Finset.mem_singleton]
      refine devRef_ne_of_ne fun e => ?_
      subst e; omega
    refine ⟨low, fun o ho => ?_⟩
    rcases List.mem_cons.mp ho with rfl | ho
    · funext b
      by_cases hb : b ∈ o.writes
      · rw [hw, Finset.mem_singleton] at hb
        subst hb
        rw [hf _ V low, after_cons, hlow y (by omega)]
      · rw [o.result_of_not_mem _ hb]
    · exact hset o ho

/-- What the contents `V` hold at a typed reference. -/
abbrev rd {T : BufTy} (V : Valuation τ sig Val) (x : TRef sig T) : T.Contents Val := x.ofBuf (V (Proc.devRef .tc x.ref))

section
variable {V : Valuation τ sig Val} {Ta Tb Ty : BufTy}

theorem rd_nullary {y : TRef sig Ty} {v : Ty.Contents Val} (h : (TRef.nullary (τ := τ) y v).result V = V) :
    rd V y = v := by
  have e := congrFun h (Proc.devRef .tc y.ref)
  rw [nullary_result] at e
  rw [rd, ← e]; simp [TRef.ofBuf, TRef.toBuf]

theorem rd_unary {x : TRef sig Ta} {y : TRef sig Ty} {f : Ta.Contents Val → Ty.Contents Val}
    (h : (TRef.unary (τ := τ) x y f).result V = V) : rd V y = f (rd V x) := by
  have e := congrFun h (Proc.devRef .tc y.ref)
  rw [unary_result] at e
  rw [rd, ← e]; simp [TRef.ofBuf, TRef.toBuf, rd]

theorem rd_binary {a : TRef sig Ta} {b : TRef sig Tb} {y : TRef sig Ty}
    {f : Ta.Contents Val → Tb.Contents Val → Ty.Contents Val}
    (h : (TRef.binary (τ := τ) a b y f).result V = V) : rd V y = f (rd V a) (rd V b) := by
  have e := congrFun h (Proc.devRef .tc y.ref)
  rw [binary_result] at e
  rw [rd, ← e]; simp [TRef.ofBuf, TRef.toBuf, rd]

theorem rd_reshape {x : TRef sig Ta} {y : TRef sig Ty} {he hn} (h : (TRef.reshape (τ := τ) (Val := Val) x y he hn).result V = V) :
    rd V y = fun i => he ▸ shapeCast Ty.shape (rd V x) hn i := by
  obtain ⟨x, rfl, hx⟩ := x
  obtain ⟨y, rfl, hy⟩ := y
  exact (congrFun h (Proc.devRef .tc y)).symm.trans (reshape_result ..)

theorem at_nullary {y : Ref sig .tc} {v : y.ty.Contents Val} {hy} (h : (nullary (τ := τ) y v hy).result V = V) :
    V (Proc.devRef .tc y) = v := (congrFun h _).symm.trans (nullary_result ..)

theorem at_unary {x y : Ref sig .tc} {f : x.ty.Contents Val → y.ty.Contents Val} {hx hy}
    (h : (unary (τ := τ) x y f hx hy).result V = V) : V (Proc.devRef .tc y) = f (V (Proc.devRef .tc x)) :=
  (congrFun h _).symm.trans (unary_result ..)

theorem at_binary {a b y : Ref sig .tc} {f : a.ty.Contents Val → b.ty.Contents Val → y.ty.Contents Val} {ha hb hy}
    (h : (binary (τ := τ) a b y f ha hb hy).result V = V) :
    V (Proc.devRef .tc y) = f (V (Proc.devRef .tc a)) (V (Proc.devRef .tc b)) :=
  (congrFun h _).symm.trans (binary_result ..)

end

theorem isSeq_of_eq {nD : ℕ} {Λ : Labels} {p : Prog (TpuEff nD τ sig Val Λ .tc) PUnit} {l₁ l₂ : List (HloOp τ sig Val)}
    (h : IsSeq p l₁) (e : l₁ = l₂) : IsSeq p l₂ := e ▸ h

/-- Two straight lines run one after the other are one straight line. -/
theorem isSeq_bind {nD : ℕ} {Λ : Labels} {p q : Prog (TpuEff nD τ sig Val Λ .tc) PUnit} {l₁ l₂ : List (HloOp τ sig Val)}
    (h₁ : IsSeq p l₁) (h₂ : IsSeq q l₂) : IsSeq (p >>= fun _ => q) (l₁ ++ l₂) := by
  unfold IsSeq at *; rw [seq_append, h₁, h₂]

end Cert.Proof.Line

end
-- ==== Proof.RefWords.lean ====
/- The reference's generator of random words, as a line of operations on whole arrays: twenty rounds and five additions
   of key words, each a short line of its own. Once the line has run, its two result arrays hold at every element the
   two output words of `Threefry.words` at that element's counter. -/
module

public import proofs.«01_k».proof.ReferenceIdeal
public import proofs.«01_k».proof.Proof.Gen.ReferenceIdeal
public import proofs.«01_k».proof.Proof.Threefry
public import proofs.«01_k».proof.Proof.Line

@[expose] public section

noncomputable section

namespace Cert.Proof.RefWords

open Idealize.ShloMosaic Idealize.ShloMosaic.StableHlo Idealize.SL.Sem Cert.ReferenceIdeal
open Cert.ReferenceIdeal.Facts₀ Cert.Proof.Line Cert.Proof.Threefry

variable {F : FTy → Type} [FloatOps F]

/-- The type of a scalar word. -/
abbrev TS : BufTy := ⟨S_, .i32⟩
/-- The type of an array of words. -/
abbrev TA : BufTy := ⟨S128x100000, .i32⟩

/-- One word repeated over the array. -/
abbrev spread : TS.Contents (Elt F) → TA.Contents (Elt F) := broadcastInDim S128x100000 ![] bcast_S_S128x100000

/-- One round's operations: from the words at `x0`, `x1` to those at `y0`, `y1`, rotating by `r` (`s` is `32 - r`). -/
def roundOps (r s : ℕ) (x0 x1 y0 : TRef sig TA) (ca : TRef sig TS) (ba sh : TRef sig TA) (cb : TRef sig TS)
    (bb sr o y1 : TRef sig TA) : List (HloOp τ sig (Elt F)) :=
  [TRef.binary x0 x1 y0 addi,
   TRef.nullary ca (constantI S_ 32 (BitVec.ofNat 32 r)), TRef.unary ca ba spread, TRef.binary x1 ba sh Host.shli,
   TRef.nullary cb (constantI S_ 32 (BitVec.ofNat 32 s)), TRef.unary cb bb spread, TRef.binary x1 bb sr Host.shrui,
   TRef.binary sh sr o ori, TRef.binary y0 o y1 xori]

/-- The addition of the key words at `kA`, `kB` and of the group's number `n`. -/
def injectOps (n : ℕ) (kA kB : TRef sig TS) (x0 x1 bA y0 bB z : TRef sig TA) (c : TRef sig TS) (bc y1 : TRef sig TA) :
    List (HloOp τ sig (Elt F)) :=
  [TRef.unary kA bA spread, TRef.binary x0 bA y0 addi, TRef.unary kB bB spread, TRef.binary x1 bB z addi,
   TRef.nullary c (constantI S_ 32 (BitVec.ofNat 32 n)), TRef.unary c bc spread, TRef.binary z bc y1 addi]

/-- The third key word, and the counter words with the first two added. -/
def startOps (arg0 arg1 : TRef sig TS) (arg2 arg3 : TRef sig TA) (v0 c v1 : TRef sig TS) (v2 v3 v4 v5 : TRef sig TA) :
    List (HloOp τ sig (Elt F)) :=
  [TRef.binary arg0 arg1 v0 xori, TRef.nullary c (constantI S_ 32 466688986#32), TRef.binary v0 c v1 xori,
   TRef.unary arg0 v2 spread, TRef.binary arg2 v2 v3 addi, TRef.unary arg1 v4 spread, TRef.binary arg3 v4 v5 addi]

/-- The generator's line, cut into its steps. -/
def blocks (arg0 arg1 : TRef sig TS) (arg2 arg3 : TRef sig TA) (φ : fn_threefry2x32.Bufs) :
    List (List (HloOp τ sig (Elt F))) :=
    [startOps arg0 arg1 arg2 arg3 φ.v0 φ.c φ.v1 φ.v2 φ.v3 φ.v4 φ.v5,
     roundOps 13 19 φ.v3 φ.v5 φ.v6 φ.c_0 φ.v7 φ.v8 φ.c_1 φ.v9 φ.v10 φ.v11 φ.v12,
     roundOps 15 17 φ.v6 φ.v12 φ.v13 φ.c_2 φ.v14 φ.v15 φ.c_3 φ.v16 φ.v17 φ.v18 φ.v19,
     roundOps 26 6 φ.v13 φ.v19 φ.v20 φ.c_4 φ.v21 φ.v22 φ.c_5 φ.v23 φ.v24 φ.v25 φ.v26,
     roundOps 6 26 φ.v20 φ.v26 φ.v27 φ.c_6 φ.v28 φ.v29 φ.c_7 φ.v30 φ.v31 φ.v32 φ.v33,
     injectOps 1 arg1 φ.v1 φ.v27 φ.v33 φ.v34 φ.v35 φ.v36 φ.v37 φ.c_8 φ.v38 φ.v39,
     roundOps 17 15 φ.v35 φ.v39 φ.v40 φ.c_9 φ.v41 φ.v42 φ.c_10 φ.v43 φ.v44 φ.v45 φ.v46,
     roundOps 29 3 φ.v40 φ.v46 φ.v47 φ.c_11 φ.v48 φ.v49 φ.c_12 φ.v50 φ.v51 φ.v52 φ.v53,
     roundOps 16 16 φ.v47 φ.v53 φ.v54 φ.c_13 φ.v55 φ.v56 φ.c_14 φ.v57 φ.v58 φ.v59 φ.v60,
     roundOps 24 8 φ.v54 φ.v60 φ.v61 φ.c_15 φ.v62 φ.v63 φ.c_16 φ.v64 φ.v65 φ.v66 φ.v67,
     injectOps 2 φ.v1 arg0 φ.v61 φ.v67 φ.v68 φ.v69 φ.v70 φ.v71 φ.c_17 φ.v72 φ.v73,
     roundOps 13 19 φ.v69 φ.v73 φ.v74 φ.c_18 φ.v75 φ.v76 φ.c_19 φ.v77 φ.v78 φ.v79 φ.v80,
     roundOps 15 17 φ.v74 φ.v80 φ.v81 φ.c_20 φ.v82 φ.v83 φ.c_21 φ.v84 φ.v85 φ.v86 φ.v87,
     roundOps 26 6 φ.v81 φ.v87 φ.v88 φ.c_22 φ.v89 φ.v90 φ.c_23 φ.v91 φ.v92 φ.v93 φ.v94,
     roundOps 6 26 φ.v88 φ.v94 φ.v95 φ.c_24 φ.v96 φ.v97 φ.c_25 φ.v98 φ.v99 φ.v100 φ.v101,
     injectOps 3 arg0 arg1 φ.v95 φ.v101 φ.v102 φ.v103 φ.v104 φ.v105 φ.c_26 φ.v106 φ.v107,
     roundOps 17 15 φ.v103 φ.v107 φ.v108 φ.c_27 φ.v109 φ.v110 φ.c_28 φ.v111 φ.v112 φ.v113 φ.v114,
     roundOps 29 3 φ.v108 φ.v114 φ.v115 φ.c_29 φ.v116 φ.v117 φ.c_30 φ.v118 φ.v119 φ.v120 φ.v121,
     roundOps 16 16 φ.v115 φ.v121 φ.v122 φ.c_31 φ.v123 φ.v124 φ.c_32 φ.v125 φ.v126 φ.v127 φ.v128,
     roundOps 24 8 φ.v122 φ.v128 φ.v129 φ.c_33 φ.v130 φ.v131 φ.c_34 φ.v132 φ.v133 φ.v134 φ.v135,
     injectOps 4 arg1 φ.v1 φ.v129 φ.v135 φ.v136 φ.v137 φ.v138 φ.v139 φ.c_35 φ.v140 φ.v141,
     roundOps 13 19 φ.v137 φ.v141 φ.v142 φ.c_36 φ.v143 φ.v144 φ.c_37 φ.v145 φ.v146 φ.v147 φ.v148,
     roundOps 15 17 φ.v142 φ.v148 φ.v149 φ.c_38 φ.v150 φ.v151 φ.c_39 φ.v152 φ.v153 φ.v154 φ.v155,
     roundOps 26 6 φ.v149 φ.v155 φ.v156 φ.c_40 φ.v157 φ.v158 φ.c_41 φ.v159 φ.v160 φ.v161 φ.v162,
     roundOps 6 26 φ.v156 φ.v162 φ.v163 φ.c_42 φ.v164 φ.v165 φ.c_43 φ.v166 φ.v167 φ.v168 φ.v169,
     injectOps 5 φ.v1 arg0 φ.v163 φ.v169 φ.v170 φ.v171 φ.v172 φ.v173 φ.c_44 φ.v174 φ.v175]

/-- The printed function is that line. -/
theorem isSeq_body (arg0 arg1 : TRef sig TS) (arg2 arg3 : TRef sig TA) (φ : fn_threefry2x32.Bufs) :
    IsSeq (fn_threefry2x32.body (F := F) arg0 arg1 arg2 arg3 φ) (blocks arg0 arg1 arg2 arg3 φ).flatten := by
  apply isSeq_of_eq
  · apply isSeq_bind
    · unfold fn_threefry2x32.body_part0; hlo_seq
    · apply isSeq_bind
      · unfold fn_threefry2x32.body_part1; hlo_seq
      · apply isSeq_bind
        · unfold fn_threefry2x32.body_part2; hlo_seq
        · unfold fn_threefry2x32.body_part3; hlo_seq
  · rfl

variable {V : Valuation τ sig (Elt F)}

/-- The pair of words that the contents hold at element `i` of two arrays. -/
abbrev pair (V : Valuation τ sig (Elt F)) (i : S128x100000.Idx) (x0 x1 : TRef sig TA) : W × W := (rd V x0 i, rd V x1 i)

/-- The word a scalar buffer holds. -/
abbrev word (V : Valuation τ sig (Elt F)) (x : TRef sig TS) : W := rd V x fun a => a.elim0

theorem spread_apply (v : TS.Contents (Elt F)) (i : S128x100000.Idx) : spread v i = v fun a => a.elim0 :=
  congrArg v (funext fun a => a.elim0)

theorem round_settled {r s : ℕ} (hr : r < 32) (hs : s < 32) (hrs : s = 32 - r) {x0 x1 y0 : TRef sig TA} {ca : TRef sig TS}
    {ba sh : TRef sig TA} {cb : TRef sig TS} {bb sr o y1 : TRef sig TA}
    (h : Settled V (roundOps r s x0 x1 y0 ca ba sh cb bb sr o y1)) {i : S128x100000.Idx} {p : W × W}
    (hp : pair V i x0 x1 = p) : pair V i y0 y1 = round r p := by
  have e0 := rd_binary h.head
  have e1 := rd_nullary h.tail.head
  have e2 := rd_unary h.tail.tail.head
  have e3 := rd_binary h.tail.tail.tail.head
  have e4 := rd_nullary h.tail.tail.tail.tail.head
  have e5 := rd_unary h.tail.tail.tail.tail.tail.head
  have e6 := rd_binary h.tail.tail.tail.tail.tail.tail.head
  have e7 := rd_binary h.tail.tail.tail.tail.tail.tail.tail.head
  have e8 := rd_binary h.tail.tail.tail.tail.tail.tail.tail.tail.head
  have f3 : rd V sh i = rd V x1 i <<< r := by
    rw [e3, e2, e1]
    show IntOp.shli .host (rd V x1 i) (BitVec.ofNat 32 r) = _
    have : (BitVec.ofNat 32 r).toNat = r := by rw [BitVec.toNat_ofNat]; omega
    unfold IntOp.shli
    rw [if_pos (by omega)]
    show rd V x1 i <<< (BitVec.ofNat 32 r).toNat = _
    rw [this]
  have f6 : rd V sr i = rd V x1 i >>> (32 - r) := by
    rw [e6, e5, e4, ← hrs]
    show IntOp.shrui .host (rd V x1 i) (BitVec.ofNat 32 s) = _
    have : (BitVec.ofNat 32 s).toNat = s := by rw [BitVec.toNat_ofNat]; omega
    unfold IntOp.shrui
    rw [if_pos (by omega)]
    show rd V x1 i >>> (BitVec.ofNat 32 s).toNat = _
    rw [this]
  have f0 : rd V y0 i = rd V x0 i + rd V x1 i := by rw [e0]; rfl
  have f8 : rd V y1 i = rot r (rd V x1 i) ^^^ rd V y0 i := by
    rw [e8, e7]
    show rd V y0 i ^^^ (rd V sh i ||| rd V sr i) = _
    rw [f3, f6, BitVec.xor_comm]; rfl
  subst hp
  exact Prod.ext f0 (f8.trans (by rw [f0]; rfl))

theorem inject_settled {n : ℕ} {kA kB : TRef sig TS} {x0 x1 bA y0 bB z : TRef sig TA} {c : TRef sig TS}
    {bc y1 : TRef sig TA} (h : Settled V (injectOps n kA kB x0 x1 bA y0 bB z c bc y1)) {i : S128x100000.Idx}
    {p : W × W} {a b c' : W} (ha : word V kA = a) (hb : word V kB = b)
    (hc : b + BitVec.ofNat 32 n = c') (hp : pair V i x0 x1 = p) :
    pair V i y0 y1 = inject a c' p := by
  have e0 := rd_unary h.head
  have e1 := rd_binary h.tail.head
  have e2 := rd_unary h.tail.tail.head
  have e3 := rd_binary h.tail.tail.tail.head
  have e4 := rd_nullary h.tail.tail.tail.tail.head
  have e5 := rd_unary h.tail.tail.tail.tail.tail.head
  have e6 := rd_binary h.tail.tail.tail.tail.tail.tail.head
  subst hp ha hb hc
  refine Prod.ext ?_ ?_
  · show rd V y0 i = rd V x0 i + word V kA
    rw [e1, e0]
    show rd V x0 i + spread (rd V kA) i = _
    rw [spread_apply]
  · show rd V y1 i = rd V x1 i + (word V kB + BitVec.ofNat 32 n)
    rw [e6, e5, e4, e3, e2]
    show rd V x1 i + spread (rd V kB) i + BitVec.ofNat 32 n = _
    rw [spread_apply, BitVec.add_assoc]

/-- Once the line has run on the key words 0 and 42 and counter words 0 and `n`, its result arrays hold
    the generator's output words. -/
theorem words_settled {arg0 arg1 : TRef sig TS} {arg2 arg3 : TRef sig TA} {φ : fn_threefry2x32.Bufs}
    (h : Settled V (blocks arg0 arg1 arg2 arg3 φ).flatten) {i : S128x100000.Idx} {n : W}
    (h0 : word V arg0 = 0#32) (h1 : word V arg1 = 42#32) (hp : pair V i arg2 arg3 = (0#32, n)) :
    pair V i φ.v171 φ.v175 = words n := by
  simp only [blocks, List.flatten_cons, List.flatten_nil, settled_append] at h
  obtain ⟨hs, a1, a2, a3, a4, i1, b1, b2, b3, b4, i2, c1, c2, c3, c4, i3, d1, d2, d3, d4, i4, e1, e2, e3, e4, i5, -⟩ := h
  have k0 := rd_binary hs.head
  have k1 := rd_nullary hs.tail.head
  have k2 := rd_binary hs.tail.tail.head
  have s0 := rd_unary hs.tail.tail.tail.head
  have s1 := rd_binary hs.tail.tail.tail.tail.head
  have s2 := rd_unary hs.tail.tail.tail.tail.tail.head
  have s3 := rd_binary hs.tail.tail.tail.tail.tail.tail.head
  have h2 : word V φ.v1 = 466689008#32 := by
    show rd V φ.v1 _ = _
    rw [k2, k1, k0]
    show word V arg0 ^^^ word V arg1 ^^^ 466688986#32 = _
    rw [h0, h1]; decide
  have st : pair V i φ.v3 φ.v5 = start n := by
    refine Prod.ext ?_ ?_
    · show rd V φ.v3 i = 0#32
      rw [s1, s0]
      show (pair V i arg2 arg3).1 + spread (rd V arg0) i = _
      rw [spread_apply, hp]
      show 0#32 + word V arg0 = _
      rw [h0]; decide
    · show rd V φ.v5 i = n + 42#32
      rw [s3, s2]
      show (pair V i arg2 arg3).2 + spread (rd V arg1) i = _
      rw [spread_apply, hp]
      show n + word V arg1 = _
      rw [h1]
  have m1 : pair V i φ.v35 φ.v39 = mid₁ n := inject_settled i1 h1 h2 (by decide)
    (round_settled (by decide) (by decide) rfl a4 (round_settled (by decide) (by decide) rfl a3
      (round_settled (by decide) (by decide) rfl a2 (round_settled (by decide) (by decide) rfl a1 st))))
  have m2 : pair V i φ.v69 φ.v73 = mid₂ n := inject_settled i2 h2 h0 (by decide)
    (round_settled (by decide) (by decide) rfl b4 (round_settled (by decide) (by decide) rfl b3
      (round_settled (by decide) (by decide) rfl b2 (round_settled (by decide) (by decide) rfl b1 m1))))
  have m3 : pair V i φ.v103 φ.v107 = mid₃ n := inject_settled i3 h0 h1 (by decide)
    (round_settled (by decide) (by decide) rfl c4 (round_settled (by decide) (by decide) rfl c3
      (round_settled (by decide) (by decide) rfl c2 (round_settled (by decide) (by decide) rfl c1 m2))))
  have m4 : pair V i φ.v137 φ.v141 = mid₄ n := inject_settled i4 h1 h2 (by decide)
    (round_settled (by decide) (by decide) rfl d4 (round_settled (by decide) (by decide) rfl d3
      (round_settled (by decide) (by decide) rfl d2 (round_settled (by decide) (by decide) rfl d1 m3))))
  exact inject_settled i5 h2 h0 (by decide)
    (round_settled (by decide) (by decide) rfl e4 (round_settled (by decide) (by decide) rfl e3
      (round_settled (by decide) (by decide) rfl e2 (round_settled (by decide) (by decide) rfl e1 m4))))

end Cert.Proof.RefWords

end
-- ==== Proof.RefUniform.lean ====
/- The reference's uniform numbers: each element's counter is its place in the array read row by row, the generator's
   word for it fills the fraction of a float in [1, 2), and one is taken away. -/
module

public import proofs.«01_k».proof.Proof.RefWords

@[expose] public section

noncomputable section

namespace Cert.Proof.RefUniform

open Idealize.ShloMosaic Idealize.ShloMosaic.StableHlo Idealize.SL.Sem Cert.ReferenceIdeal
open Cert.ReferenceIdeal.Facts₀ Cert.Proof.Line Cert.Proof.Threefry Cert.Proof.RefWords

variable {F : FTy → Type} [FloatOps F]

/-- The number an element's random word is turned into. -/
def unif (w : W) : F .f32 :=
  FloatOps.maximumf (FloatOps.ofBits .f32 0x00000000#32)
    (FloatOps.addf (FloatOps.mulf (FloatOps.subf (FloatOps.ofBits .f32 (w >>> 9 ||| 1065353216#32)) (FloatOps.ofBits .f32 0x3F800000#32))
      (FloatOps.subf (FloatOps.ofBits .f32 0x3F800000#32) (FloatOps.ofBits .f32 0x00000000#32))) (FloatOps.ofBits .f32 0x00000000#32))

/-- An element's counter: its place in the array read row by row. -/
def counter (i : S128x100000.Idx) : W := BitVec.ofNat 32 ((i 0).val * 100000 + (i 1).val)

/-- The operations before the generator: the key's two words and the counters. -/
def opsBefore (arg0 : TRef sig ⟨S2, .i32⟩) (arg1 arg2 : TRef sig ⟨S_, .f32⟩) (φ : fn_uniform.Bufs) : List (HloOp τ sig (Elt F)) :=
  [TRef.unary arg1 φ.v0 id,
   TRef.unary arg2 φ.v1 id,
   TRef.unary φ.v0 φ.v2 (broadcastInDim S1x1 ![] bcast_S_S1x1),
   TRef.unary φ.v1 φ.v3 (broadcastInDim S1x1 ![] bcast_S_S1x1),
   TRef.unary arg0 φ.v4 (extractStridedSlice S1 ![0] · slices_S2_S1_0),
   TRef.reshape φ.v4 φ.v5 (rfl : (.i32 : EltTy) = .i32) shapeCasts_S1_S_,
   TRef.unary arg0 φ.v6 (extractStridedSlice S1 ![1] · slices_S2_S1_1),
   TRef.reshape φ.v6 φ.v7 (rfl : (.i32 : EltTy) = .i32) shapeCasts_S1_S_,
   TRef.nullary φ.v8 (iotaInDim S128x100000 64 0),
   TRef.nullary φ.v9 (iotaInDim S128x100000 64 1),
   TRef.nullary φ.c (constantI S_ 64 100000#64),
   TRef.unary φ.c φ.v10 (broadcastInDim S128x100000 ![] bcast_S_S128x100000),
   TRef.binary φ.v10 φ.v8 φ.v11 muli,
   TRef.nullary φ.c_0 (constantI S_ 64 1#64),
   TRef.unary φ.c_0 φ.v12 (broadcastInDim S128x100000 ![] bcast_S_S128x100000),
   TRef.binary φ.v12 φ.v9 φ.v13 muli,
   TRef.binary φ.v11 φ.v13 φ.v14 addi,
   TRef.nullary φ.c_1 (constantI S_ 64 32#64),
   TRef.unary φ.c_1 φ.v15 (broadcastInDim S128x100000 ![] bcast_S_S128x100000),
   TRef.binary φ.v14 φ.v15 φ.v16 Host.shrui,
   TRef.unary φ.v14 φ.v17 (trunci 32 · natLt_32_64),
   TRef.unary φ.v16 φ.v18 (trunci 32 · natLt_32_64)]

/-- The operations after the generator. -/
def opsAfter (φ : fn_uniform.Bufs) : List (HloOp τ sig (Elt F)) :=
  [TRef.binary φ.call0.v171 φ.call0.v175 φ.v20 xori,
   TRef.nullary φ.c_2 (constantI S_ 32 9#32),
   TRef.unary φ.c_2 φ.v21 (broadcastInDim S128x100000 ![] bcast_S_S128x100000),
   TRef.binary φ.v20 φ.v21 φ.v22 Host.shrui,
   TRef.nullary φ.c_3 (constantI S_ 32 1065353216#32),
   TRef.unary φ.c_3 φ.v23 (broadcastInDim S128x100000 ![] bcast_S_S128x100000),
   TRef.binary φ.v22 φ.v23 φ.v24 ori,
   TRef.unary φ.v24 φ.v25 (bitcastToFloat .f32),
   TRef.nullary φ.cst (constant S_ .f32 0x3F800000#32),
   TRef.unary φ.cst φ.v26 (broadcastInDim S128x100000 ![] bcast_S_S128x100000),
   TRef.binary φ.v25 φ.v26 φ.v27 subf,
   TRef.binary φ.v3 φ.v2 φ.v28 subf,
   TRef.unary φ.v28 φ.v29 (broadcastInDim S128x100000 ![0, 1] bcast_S1x1_S128x100000_0_1),
   TRef.binary φ.v27 φ.v29 φ.v30 mulf,
   TRef.unary φ.v2 φ.v31 (broadcastInDim S128x100000 ![0, 1] bcast_S1x1_S128x100000_0_1),
   TRef.binary φ.v30 φ.v31 φ.v32 addf,
   TRef.unary φ.v2 φ.v33 (broadcastInDim S128x100000 ![0, 1] bcast_S1x1_S128x100000_0_1),
   TRef.binary φ.v33 φ.v32 φ.v34 maximumf]

theorem isSeq_uniform (arg0 : TRef sig ⟨S2, .i32⟩) (arg1 arg2 : TRef sig ⟨S_, .f32⟩) (φ : fn_uniform.Bufs) :
    IsSeq (fn_uniform.body (F := F) arg0 arg1 arg2 φ)
      (opsBefore arg0 arg1 arg2 φ ++ ((blocks φ.v5 φ.v7 φ.v18 φ.v17 φ.call0).flatten ++ opsAfter φ)) := by
  unfold IsSeq
  rw [seq_append, seq_append, ← isSeq_body]
  rfl

variable {V : Valuation τ sig (Elt F)}

theorem counter_nat (a b : ℕ) (ha : a < 128) (hb : b < 100000) :
    (100000#64 * BitVec.ofNat 64 a + 1#64 * BitVec.ofNat 64 b).setWidth 32 = BitVec.ofNat 32 (a * 100000 + b)
      ∧ ((100000#64 * BitVec.ofNat 64 a + 1#64 * BitVec.ofNat 64 b) >>> 32).setWidth 32 = 0#32 := by
  have e : (100000#64 * BitVec.ofNat 64 a + 1#64 * BitVec.ofNat 64 b) = BitVec.ofNat 64 (a * 100000 + b) := by
    apply BitVec.eq_of_toNat_eq
    simp only [BitVec.toNat_add, BitVec.toNat_mul, BitVec.toNat_ofNat]
    omega
  rw [e]
  constructor
  · apply BitVec.eq_of_toNat_eq
    simp only [BitVec.toNat_setWidth, BitVec.toNat_ofNat]
    omega
  · apply BitVec.eq_of_toNat_eq
    simp only [BitVec.toNat_setWidth, BitVec.toNat_ushiftRight, BitVec.toNat_ofNat, Nat.shiftRight_eq_div_pow]
    rw [Nat.mod_eq_of_lt (a := a * 100000 + b) (by omega), Nat.div_eq_of_lt (by omega)]

theorem counter_word (i : S128x100000.Idx) :
    (100000#64 * BitVec.ofNat 64 (i 0).val + 1#64 * BitVec.ofNat 64 (i 1).val).setWidth 32 = counter i
      ∧ ((100000#64 * BitVec.ofNat 64 (i 0).val + 1#64 * BitVec.ofNat 64 (i 1).val) >>> 32).setWidth 32 = 0#32 :=
  counter_nat _ _ (i 0).isLt (i 1).isLt

/-- Once the line has run on the key words 0 and 42, its result array holds at every element the number
    its counter's word is turned into. -/
theorem uniform_settled {arg0 : TRef sig ⟨S2, .i32⟩} {arg1 arg2 : TRef sig ⟨S_, .f32⟩} {φ : fn_uniform.Bufs}
    (h : Settled V (opsBefore arg0 arg1 arg2 φ ++ ((blocks φ.v5 φ.v7 φ.v18 φ.v17 φ.call0).flatten ++ opsAfter φ)))
    (hk0 : ∀ k : S2.Idx, (k 0).val = 0 → rd V arg0 k = 0#32) (hk1 : ∀ k : S2.Idx, (k 0).val = 1 → rd V arg0 k = 42#32)
    (hlo : rd V arg1 = fun _ => FloatOps.ofBits .f32 0x00000000#32) (hhi : rd V arg2 = fun _ => FloatOps.ofBits .f32 0x3F800000#32)
    (i : S128x100000.Idx) : rd V φ.v34 i = unif (bits (counter i)) := by
  obtain ⟨hb, hw, ha⟩ := (settled_append.1 h).imp_right settled_append.1
  simp only [opsBefore, settled_cons] at hb
  simp only [opsAfter, settled_cons] at ha
  obtain ⟨v0, v1, v2, v3, v4, v5, v6, v7, v8, v9, c, v10, v11, c_0, v12, v13, v14, c_1, v15, v16, v17, v18, -⟩ := hb
  obtain ⟨v20, c_2, v21, v22, c_3, v23, v24, v25, cst, v26, v27, v28, v29, v30, v31, v32, v33, v34, -⟩ := ha
  replace v0 := rd_unary v0
  replace v1 := rd_unary v1
  replace v2 := rd_unary v2
  replace v3 := rd_unary v3
  replace v4 := rd_unary v4
  replace v5 := rd_reshape v5
  replace v6 := rd_unary v6
  replace v7 := rd_reshape v7
  replace v8 := rd_nullary v8
  replace v9 := rd_nullary v9
  replace c := rd_nullary c
  replace v10 := rd_unary v10
  replace v11 := rd_binary v11
  replace c_0 := rd_nullary c_0
  replace v12 := rd_unary v12
  replace v13 := rd_binary v13
  replace v14 := rd_binary v14
  replace c_1 := rd_nullary c_1
  replace v15 := rd_unary v15
  replace v16 := rd_binary v16
  replace v17 := rd_unary v17
  replace v18 := rd_unary v18
  replace v20 := rd_binary v20
  replace c_2 := rd_nullary c_2
  replace v21 := rd_unary v21
  replace v22 := rd_binary v22
  replace c_3 := rd_nullary c_3
  replace v23 := rd_unary v23
  replace v24 := rd_binary v24
  replace v25 := rd_unary v25
  replace cst := rd_nullary cst
  replace v26 := rd_unary v26
  replace v27 := rd_binary v27
  replace v28 := rd_binary v28
  replace v29 := rd_unary v29
  replace v30 := rd_binary v30
  replace v31 := rd_unary v31
  replace v32 := rd_binary v32
  replace v33 := rd_unary v33
  replace v34 := rd_binary v34
  have k0 : word V φ.v5 = 0#32 := by
    show rd V φ.v5 _ = _
    rw [v5, v4]
    exact hk0 _ (by decide)
  have k1 : word V φ.v7 = 42#32 := by
    show rd V φ.v7 _ = _
    rw [v7, v6]
    exact hk1 _ (by decide)
  have hc : rd V φ.v14 i = 100000#64 * BitVec.ofNat 64 (i 0).val + 1#64 * BitVec.ofNat 64 (i 1).val := by
    rw [v14, v11, v13, v10, v12, c, c_0, v8, v9]; rfl
  have hp : pair V i φ.v18 φ.v17 = (0#32, counter i) := by
    refine Prod.ext ?_ ?_
    · show rd V φ.v18 i = 0#32
      rw [v18]
      show (rd V φ.v16 i).setWidth 32 = _
      rw [v16, v15, c_1]
      show (IntOp.shrui .host (rd V φ.v14 i) 32#64).setWidth 32 = _
      unfold IntOp.shrui
      rw [if_pos (by decide), hc]
      exact (counter_word i).2
    · show rd V φ.v17 i = counter i
      rw [v17]
      show (rd V φ.v14 i).setWidth 32 = _
      rw [hc]
      exact (counter_word i).1
  have w := words_settled hw k0 k1 hp
  have h20 : rd V φ.v20 i = bits (counter i) := by
    rw [v20]
    show (pair V i φ.call0.v171 φ.call0.v175).1 ^^^ (pair V i φ.call0.v171 φ.call0.v175).2 = _
    rw [w]; rfl
  have h24 : rd V φ.v24 i = bits (counter i) >>> 9 ||| 1065353216#32 := by
    rw [v24, v22, v23, c_3, v21, c_2]
    show IntOp.shrui .host (rd V φ.v20 i) 9#32 ||| 1065353216#32 = _
    unfold IntOp.shrui
    rw [if_pos (by decide), h20]; rfl
  have h25 : rd V φ.v25 i = FloatOps.ofBits .f32 (bits (counter i) >>> 9 ||| 1065353216#32) := by
    rw [v25]
    show FloatOps.ofBits .f32 (rd V φ.v24 i) = _
    rw [h24]
  rw [v34, v33, v32, v31, v30, v29, v28, v27, v26, v3, v2, v1, v0, hlo, hhi, cst]
  show FloatOps.maximumf _ (FloatOps.addf (FloatOps.mulf (FloatOps.subf (rd V φ.v25 i) _) _) _) = _
  rw [h25]; rfl

end Cert.Proof.RefUniform

end
-- ==== Proof.RefRun.lean ====
/- The reference's run: its operations in order, what its result buffer ends holding as a function of the logits and
   of the uniform numbers, and that the argument ends as it began. -/
module

public import proofs.«01_k».proof.Proof.RefUniform

@[expose] public section

noncomputable section

namespace Cert.Proof.RefRun

open Idealize.ShloMosaic Idealize.ShloMosaic.StableHlo Idealize.SL.Sem Cert.ReferenceIdeal
open Cert.ReferenceIdeal.Facts₀ Cert.Proof.Line Cert.Proof.Threefry Cert.Proof.RefWords Cert.Proof.RefUniform

variable {F : FTy → Type} [FloatOps F]

/-- A scalar, the array, its rows' numbers, and those as a column. -/
abbrev FS : BufTy := ⟨S_, .f32⟩
abbrev FA : BufTy := ⟨S128x100000, .f32⟩
abbrev FR : BufTy := ⟨S128, .f32⟩
abbrev FC : BufTy := ⟨S128x1, .f32⟩

/-- One number over the whole array. -/
def all (b : BitVec 32) : FA.Contents (Elt F) := broadcastInDim S128x100000 ![] bcast_S_S128x100000 (constant S_ .f32 b)

/-- A row's number at every element of the row. -/
def rows (r : FR.Contents (Elt F)) : FA.Contents (Elt F) :=
  broadcastInDim S128x100000 ![0, 1] bcast_S128x1_S128x100000_0_1 (broadcastInDim S128x1 ![0] bcast_S128_S128x1_0 r)

/-- The scores: logits plus Gumbel noise made of the uniform numbers, over the temperature 1. -/
def scores (x u : FA.Contents (Elt F)) : FA.Contents (Elt F) :=
  Host.divf (addf x (Host.negf (Host.log (subf (all 0x2EDBE6FF#32) (Host.log (addf u (all 0x2EDBE6FF#32))))))) (all 0x3F800000#32)

/-- Each row's maximum. -/
def rowMax (z : FA.Contents (Elt F)) : FR.Contents (Elt F) :=
  maximumf (broadcastInDim S128 ![] bcast_S_S128 (constant S_ .f32 0xFF800000#32))
    (Host.reduce FloatOps.maximumf z (constant S_ .f32 0xFF800000#32) reducesTo_S128x100000_S128_d1 h_S_)

/-- The scores' exponentials, each row's maximum taken away first. -/
def expo (z : FA.Contents (Elt F)) : FA.Contents (Elt F) := Host.exp (subf z (rows (rowMax z)))

/-- The exponentials over their row's sum. -/
def normal (e : FA.Contents (Elt F)) : FA.Contents (Elt F) :=
  Host.divf e (rows (Host.reduceAdd e (constant S_ .f32 0x00000000#32) reducesTo_S128x100000_S128_d1 h_S_))

/-- The reference's result. -/
def refOut (x u : FA.Contents (Elt F)) : FA.Contents (Elt F) := normal (expo (scores x u))

/-- The operations before the uniform numbers. -/
def mainBefore : List (HloOp τ sig (Elt F)) :=
  [nullary main_c (constantI S_ 32 42#32),
   nullary main_c_0 (constantI S_ 32 32#32),
   binary main_c main_c_0 main_v0 (Host.shrui : TS.Contents (Elt F) → TS.Contents (Elt F) → TS.Contents (Elt F)),
   unary main_v0 main_v1 (id : TS.Contents (Elt F) → TS.Contents (Elt F)),
   unary main_v1 main_v2 (broadcastInDim S1 ![] bcast_S_S1 : TS.Contents (Elt F) → (⟨S1, .i32⟩ : BufTy).Contents (Elt F)),
   nullary main_c_1 (constantI S_ 32 4294967295#32),
   binary main_c main_c_1 main_v3 (andi : TS.Contents (Elt F) → TS.Contents (Elt F) → TS.Contents (Elt F)),
   unary main_v3 main_v4 (id : TS.Contents (Elt F) → TS.Contents (Elt F)),
   unary main_v4 main_v5 (broadcastInDim S1 ![] bcast_S_S1 : TS.Contents (Elt F) → (⟨S1, .i32⟩ : BufTy).Contents (Elt F)),
   binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   nullary main_cst (constant S_ .f32 0x00000000#32),
   nullary main_cst_2 (constant S_ .f32 0x3F800000#32)]

/-- The operations after them. -/
def mainAfter : List (HloOp τ sig (Elt F)) :=
  [nullary main_cst_3 (constant S_ .f32 0x2EDBE6FF#32),
   unary main_cst_3 main_v8 (broadcastInDim S128x100000 ![] bcast_S_S128x100000 : FS.Contents (Elt F) → FA.Contents (Elt F)),
   binary main_v7 main_v8 main_v9 (addf : FA.Contents (Elt F) → FA.Contents (Elt F) → FA.Contents (Elt F)),
   unary main_v9 main_v10 (Host.log : FA.Contents (Elt F) → FA.Contents (Elt F)),
   nullary main_cst_4 (constant S_ .f32 0x2EDBE6FF#32),
   unary main_cst_4 main_v11 (broadcastInDim S128x100000 ![] bcast_S_S128x100000 : FS.Contents (Elt F) → FA.Contents (Elt F)),
   binary main_v11 main_v10 main_v12 (subf : FA.Contents (Elt F) → FA.Contents (Elt F) → FA.Contents (Elt F)),
   unary main_v12 main_v13 (Host.log : FA.Contents (Elt F) → FA.Contents (Elt F)),
   unary main_v13 main_v14 (Host.negf : FA.Contents (Elt F) → FA.Contents (Elt F)),
   binary main_arg0 main_v14 main_v15 (addf : FA.Contents (Elt F) → FA.Contents (Elt F) → FA.Contents (Elt F)),
   nullary main_cst_5 (constant S_ .f32 0x3F800000#32),
   unary main_cst_5 main_v16 (broadcastInDim S128x100000 ![] bcast_S_S128x100000 : FS.Contents (Elt F) → FA.Contents (Elt F)),
   binary main_v15 main_v16 main_v17 (Host.divf : FA.Contents (Elt F) → FA.Contents (Elt F) → FA.Contents (Elt F)),
   nullary main_cst_6 (constant S_ .f32 0xFF800000#32),
   binary main_v17 main_cst_6 main_v18 ((fun x v => Host.reduce FloatOps.maximumf x v reducesTo_S128x100000_S128_d1 h_S_) : FA.Contents (Elt F) → FS.Contents (Elt F) → FR.Contents (Elt F)),
   nullary main_cst_7 (constant S_ .f32 0xFF800000#32),
   unary main_cst_7 main_v19 (broadcastInDim S128 ![] bcast_S_S128 : FS.Contents (Elt F) → FR.Contents (Elt F)),
   binary main_v19 main_v18 main_v20 (maximumf : FR.Contents (Elt F) → FR.Contents (Elt F) → FR.Contents (Elt F)),
   unary main_v20 main_v21 (broadcastInDim S128x1 ![0] bcast_S128_S128x1_0 : FR.Contents (Elt F) → FC.Contents (Elt F)),
   unary main_v21 main_v22 (broadcastInDim S128x100000 ![0, 1] bcast_S128x1_S128x100000_0_1 : FC.Contents (Elt F) → FA.Contents (Elt F)),
   binary main_v17 main_v22 main_v23 (subf : FA.Contents (Elt F) → FA.Contents (Elt F) → FA.Contents (Elt F)),
   unary main_v23 main_v24 (Host.exp : FA.Contents (Elt F) → FA.Contents (Elt F)),
   nullary main_cst_8 (constant S_ .f32 0x00000000#32),
   binary main_v24 main_cst_8 main_v25 ((fun x v => Host.reduceAdd x v reducesTo_S128x100000_S128_d1 h_S_) : FA.Contents (Elt F) → FS.Contents (Elt F) → FR.Contents (Elt F)),
   unary main_v25 main_v26 (broadcastInDim S128x1 ![0] bcast_S128_S128x1_0 : FR.Contents (Elt F) → FC.Contents (Elt F)),
   unary main_v26 main_v27 (broadcastInDim S128x100000 ![0, 1] bcast_S128x1_S128x100000_0_1 : FC.Contents (Elt F) → FA.Contents (Elt F)),
   binary main_v24 main_v27 main_v28 (Host.divf : FA.Contents (Elt F) → FA.Contents (Elt F) → FA.Contents (Elt F))]

/-- The operations of the uniform numbers. -/
def uniformOps : List (HloOp τ sig (Elt F)) :=
  opsBefore (.of main_v6) (.of main_cst) (.of main_cst_2) main_call0
    ++ ((blocks main_call0.v5 main_call0.v7 main_call0.v18 main_call0.v17 main_call0.call0).flatten ++ opsAfter main_call0)

/-- All the reference's operations. -/
def ops : List (HloOp τ sig (Elt F)) := mainBefore ++ (uniformOps ++ mainAfter)

theorem isSeq_main (d : Dev nD) : IsSeq (main (F := F) d) ops := by
  unfold IsSeq ops
  rw [seq_append, seq_append, uniformOps, ← isSeq_uniform]
  rfl

theorem before_inOrder : InOrder 1 (mainBefore (F := F)) := by
  unfold mainBefore
  repeat (refine ⟨by first
    | exact Step.nullary _ _ _ rfl
    | exact Step.unary _ _ _ _ _ rfl (by decide)
    | exact Step.binary _ _ _ _ _ _ _ rfl (by decide) (by decide), ?_⟩)
  trivial

theorem round_append {l : List (HloOp τ sig (Elt F))} (n r s : ℕ) {x0 x1 y0 : TRef sig TA} {ca : TRef sig TS} {ba sh : TRef sig TA} {cb : TRef sig TS}
    {bb sr o y1 : TRef sig TA} (h0 : x0.ref.idx.val < n) (h1 : x1.ref.idx.val < n) (e0 : y0.ref.idx.val = n)
    (e1 : ca.ref.idx.val = n + 1) (e2 : ba.ref.idx.val = n + 2) (e3 : sh.ref.idx.val = n + 3)
    (e4 : cb.ref.idx.val = n + 4) (e5 : bb.ref.idx.val = n + 5) (e6 : sr.ref.idx.val = n + 6)
    (e7 : o.ref.idx.val = n + 7) (e8 : y1.ref.idx.val = n + 8) :
    InOrder (n + 9) l → InOrder n (roundOps (F := F) r s x0 x1 y0 ca ba sh cb bb sr o y1 ++ l) :=
  inOrder_append (n := n) (l₁ := roundOps r s x0 x1 y0 ca ba sh cb bb sr o y1) ⟨Step.binary _ _ _ _ _ _ _ e0 h0 h1, Step.nullary _ _ _ e1, Step.unary _ _ _ _ _ e2 (by omega),
   Step.binary _ _ _ _ _ _ _ e3 (by omega) (by omega), Step.nullary _ _ _ e4, Step.unary _ _ _ _ _ e5 (by omega),
   Step.binary _ _ _ _ _ _ _ e6 (by omega) (by omega), Step.binary _ _ _ _ _ _ _ e7 (by omega) (by omega),
   Step.binary _ _ _ _ _ _ _ e8 (by omega) (by omega), trivial⟩

theorem inject_append {l : List (HloOp τ sig (Elt F))} (n k : ℕ) {kA kB : TRef sig TS} {x0 x1 bA y0 bB z : TRef sig TA} {c : TRef sig TS}
    {bc y1 : TRef sig TA} (hA : kA.ref.idx.val < n) (hB : kB.ref.idx.val < n) (h0 : x0.ref.idx.val < n)
    (h1 : x1.ref.idx.val < n) (e0 : bA.ref.idx.val = n) (e1 : y0.ref.idx.val = n + 1) (e2 : bB.ref.idx.val = n + 2)
    (e3 : z.ref.idx.val = n + 3) (e4 : c.ref.idx.val = n + 4) (e5 : bc.ref.idx.val = n + 5) (e6 : y1.ref.idx.val = n + 6) :
    InOrder (n + 7) l → InOrder n (injectOps (F := F) k kA kB x0 x1 bA y0 bB z c bc y1 ++ l) :=
  inOrder_append (n := n) (l₁ := injectOps k kA kB x0 x1 bA y0 bB z c bc y1) ⟨Step.unary _ _ _ _ _ e0 hA, Step.binary _ _ _ _ _ _ _ e1 (by omega) (by omega), Step.unary _ _ _ _ _ e2 (by omega),
   Step.binary _ _ _ _ _ _ _ e3 (by omega) (by omega), Step.nullary _ _ _ e4, Step.unary _ _ _ _ _ e5 (by omega),
   Step.binary _ _ _ _ _ _ _ e6 (by omega) (by omega), trivial⟩

theorem start_append {l : List (HloOp τ sig (Elt F))} (n : ℕ) {arg0 arg1 : TRef sig TS} {arg2 arg3 : TRef sig TA} {v0 c v1 : TRef sig TS}
    {v2 v3 v4 v5 : TRef sig TA} (h0 : arg0.ref.idx.val < n) (h1 : arg1.ref.idx.val < n) (h2 : arg2.ref.idx.val < n)
    (h3 : arg3.ref.idx.val < n) (e0 : v0.ref.idx.val = n) (e1 : c.ref.idx.val = n + 1) (e2 : v1.ref.idx.val = n + 2)
    (e3 : v2.ref.idx.val = n + 3) (e4 : v3.ref.idx.val = n + 4) (e5 : v4.ref.idx.val = n + 5) (e6 : v5.ref.idx.val = n + 6) :
    InOrder (n + 7) l → InOrder n (startOps (F := F) arg0 arg1 arg2 arg3 v0 c v1 v2 v3 v4 v5 ++ l) :=
  inOrder_append (n := n) (l₁ := startOps arg0 arg1 arg2 arg3 v0 c v1 v2 v3 v4 v5) ⟨Step.binary _ _ _ _ _ _ _ e0 h0 h1, Step.nullary _ _ _ e1, Step.binary _ _ _ _ _ _ _ e2 (by omega) (by omega),
   Step.unary _ _ _ _ _ e3 (by omega), Step.binary _ _ _ _ _ _ _ e4 (by omega) (by omega),
   Step.unary _ _ _ _ _ e5 (by omega), Step.binary _ _ _ _ _ _ _ e6 (by omega) (by omega), trivial⟩

theorem blocks_inOrder : InOrder 35 (blocks (F := F) main_call0.v5 main_call0.v7 main_call0.v18 main_call0.v17 main_call0.call0).flatten := by
  simp only [blocks, List.flatten_cons, List.flatten_nil]
  refine start_append 35 (by decide) (by decide) (by decide) (by decide) rfl rfl rfl rfl rfl rfl rfl ?_
  repeat (first
    | refine round_append _ _ _ (by decide) (by decide) rfl rfl rfl rfl rfl rfl rfl rfl rfl ?_
    | refine inject_append _ _ (by decide) (by decide) (by decide) (by decide) rfl rfl rfl rfl rfl rfl rfl ?_)
  trivial

theorem opsBefore_inOrder : InOrder 13 (opsBefore (F := F) (.of main_v6) (.of main_cst) (.of main_cst_2) main_call0) := by
  unfold opsBefore
  repeat (refine ⟨by first
    | exact Step.nullary _ _ _ rfl
    | exact Step.unary _ _ _ _ _ rfl (by decide)
    | exact Step.reshape _ _ _ _ _ _ rfl (by decide)
    | exact Step.binary _ _ _ _ _ _ _ rfl (by decide) (by decide), ?_⟩)
  trivial

theorem opsAfter_inOrder : InOrder 257 (opsAfter (F := F) main_call0) := by
  unfold opsAfter
  repeat (refine ⟨by first
    | exact Step.nullary _ _ _ rfl
    | exact Step.unary _ _ _ _ _ rfl (by decide)
    | exact Step.binary _ _ _ _ _ _ _ rfl (by decide) (by decide), ?_⟩)
  trivial

theorem uniform_inOrder : InOrder 13 (uniformOps (F := F)) :=
  inOrder_append opsBefore_inOrder (inOrder_append blocks_inOrder opsAfter_inOrder)

theorem after_inOrder' : InOrder 275 (mainAfter (F := F)) := by
  unfold mainAfter
  repeat (refine ⟨by first
    | exact Step.nullary _ _ _ rfl
    | exact Step.unary _ _ _ _ _ rfl (by decide)
    | exact Step.binary _ _ _ _ _ _ _ rfl (by decide) (by decide), ?_⟩)
  trivial

theorem ops_inOrder : InOrder 1 (ops (F := F)) :=
  inOrder_append before_inOrder (inOrder_append uniform_inOrder after_inOrder')

theorem bufs_tc : (ops (F := F)).Forall fun op => op.bufs ⊆ tcRefs τ sig := by
  simp [ops, mainBefore, uniformOps, opsBefore, blocks, startOps, roundOps, injectOps, opsAfter, mainAfter, List.forall_append]

theorem nofresh {op : HloOp τ sig (Elt F)} (h : op ∈ ops (F := F)) : op.fresh = ∅ := by
  simp only [ops, mainBefore, uniformOps, opsBefore, blocks, startOps, roundOps, injectOps, opsAfter, mainAfter,
    List.flatten_cons, List.flatten_nil, List.cons_append, List.nil_append, List.append_nil] at h
  (repeat (cases h with | head => rfl | tail _ h => ?_)); exact nomatch h

/-- The key's second word. -/
theorem key_second : (concatenate S2 0 [⟨S1, broadcastInDim S1 ![] bcast_S_S1 (id (Host.shrui (constantI S_ 32 42#32) (constantI S_ 32 32#32)))⟩,
      ⟨S1, broadcastInDim S1 ![] bcast_S_S1 (id (andi (constantI S_ 32 42#32) (constantI S_ 32 4294967295#32)))⟩]
      concatenates_S1_S1_S2_d0 fun a => ⟨1, by fin_cases a; decide⟩) = 42#32 := by
  decide +kernel

variable {V : Valuation τ sig (Elt F)}

/-- Once the operations have run, the result buffer holds `refOut` of the argument and of the uniform numbers,
    which are those of the elements' counters. -/
theorem out_settled (h : Settled V (ops (F := F))) :
    V (Proc.devRef .tc main_v28) = refOut (V (Proc.devRef .tc main_arg0)) fun i => unif (bits (counter i)) := by
  obtain ⟨hb, hu, ha⟩ := (settled_append.1 h).imp_right settled_append.1
  simp only [mainBefore, settled_cons] at hb
  simp only [mainAfter, settled_cons] at ha
  obtain ⟨c, c_0, v0, v1, v2, c_1, v3, v4, v5, v6, cst, cst_2, -⟩ := hb
  obtain ⟨cst_3, v8, v9, v10, cst_4, v11, v12, v13, v14, v15, cst_5, v16, v17, cst_6, v18, cst_7, v19, v20, v21, v22, v23, v24, cst_8, v25, v26, v27, v28, -⟩ := ha
  replace c := at_nullary c
  replace c_0 := at_nullary c_0
  replace v0 := at_binary v0
  replace v1 := at_unary v1
  replace v2 := at_unary v2
  replace c_1 := at_nullary c_1
  replace v3 := at_binary v3
  replace v4 := at_unary v4
  replace v5 := at_unary v5
  replace v6 := at_binary v6
  replace cst := at_nullary cst
  replace cst_2 := at_nullary cst_2
  replace cst_3 := at_nullary cst_3
  replace v8 := at_unary v8
  replace v9 := at_binary v9
  replace v10 := at_unary v10
  replace cst_4 := at_nullary cst_4
  replace v11 := at_unary v11
  replace v12 := at_binary v12
  replace v13 := at_unary v13
  replace v14 := at_unary v14
  replace v15 := at_binary v15
  replace cst_5 := at_nullary cst_5
  replace v16 := at_unary v16
  replace v17 := at_binary v17
  replace cst_6 := at_nullary cst_6
  replace v18 := at_binary v18
  replace cst_7 := at_nullary cst_7
  replace v19 := at_unary v19
  replace v20 := at_binary v20
  replace v21 := at_unary v21
  replace v22 := at_unary v22
  replace v23 := at_binary v23
  replace v24 := at_unary v24
  replace cst_8 := at_nullary cst_8
  replace v25 := at_binary v25
  replace v26 := at_unary v26
  replace v27 := at_unary v27
  replace v28 := at_binary v28
  have k0 : ∀ k : S2.Idx, (k 0).val = 0 → rd V (.of main_v6) k = 0#32 := by
    intro k hk
    show (V (Proc.devRef .tc main_v6) : S2.Idx → BitVec 32) k = _
    rw [v6, v2, v5, v1, v4, v0, v3, c, c_0, c_1]
    have : k = fun a => ⟨0, by fin_cases a; decide⟩ := funext fun a => by fin_cases a; exact Fin.ext hk
    subst this
    rfl
  have k1 : ∀ k : S2.Idx, (k 0).val = 1 → rd V (.of main_v6) k = 42#32 := by
    intro k hk
    show (V (Proc.devRef .tc main_v6) : S2.Idx → BitVec 32) k = _
    rw [v6, v2, v5, v1, v4, v0, v3, c, c_0, c_1]
    have : k = fun a => ⟨1, by fin_cases a; decide⟩ := funext fun a => by fin_cases a; exact Fin.ext hk
    subst this
    exact key_second
  have v7 : V (Proc.devRef .tc main_v7) = fun i => unif (bits (counter i)) :=
    funext fun i => uniform_settled hu k0 k1 cst cst_2 i
  rw [v28, v27, v26, v25, v24, v23, v22, v21, v20, v19, v18, v17, v16, v15, v14, v13, v12, v11, v10, v9, v8, v7,
    cst_3, cst_4, cst_5, cst_6, cst_7, cst_8]
  rfl

/-- The reference's run: its result, its argument as it began, and no semaphore left counting. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v28)
          = refOut (m ((c.tc : Thread nD τ).loc main_arg0)) (fun i => unif (bits (counter i)))
        ∧ r.2.mem ((c.tc : Thread nD τ).loc main_arg0) = m ((c.tc : Thread nD τ).loc main_arg0))
      ∧ r.2.sem = fun _ => 0) := by
  refine (θ_run (defs (F := F)) _ _).mono (fun r h => ⟨fun c => ?_, sem_eq_zero_of_no_sems (by decide) r.2⟩)
    (run_hlo (defs (F := F)) (main (F := F)) isSeq_main (by decide) (by decide) ?_ ?_ m g)
  · obtain ⟨hlow, hset⟩ := after_inOrder (ops (F := F)) 1 (launchContents m c) ops_inOrder
    have e := out_settled hset
    rw [hlow main_arg0 (by decide)] at e
    exact ⟨(h c _).trans e, (h c _).trans (hlow main_arg0 (by decide))⟩
  · exact bufs_tc
  · exact fun op h => nofresh h

end Cert.Proof.RefRun

end
-- ==== Proof.Block.lean ====
/- What one grid point of the kernel does to a block of numbers: the exponentials it stores, the running sum it adds
   them to, and how the kept blocks are written and read one at a time. -/
module

public import proofs.«01_k».proof.Proof.RefRun
public import proofs.«01_k».proof.Proof.Gen.KernelIdeal.Skeleton
public import proofs.«01_k».proof.Proof.Gen.KernelIdeal.Frame
public import Idealize.ShloMosaic.Lib.VecWindow
public import Idealize.ShloMosaic.Lib.ValueLayout

@[expose] public section

set_option maxRecDepth 16384

noncomputable section

namespace Cert.Proof.Block

open Idealize.ShloMosaic Idealize.ShloMosaic.ValueIdx Cert.KernelIdeal Cert.KernelIdeal.Gen

variable {F : FTy → Type} [FloatOps F]

/-- The two words after the first two groups of rounds and the third key's injection. -/
def half (r k : BitVec 32) : IVec S8x2048 32 × IVec S8x2048 32 :=
  (k0_pay27 (k0_pay15 r k) (k0_pay16 r k), k0_pay28 (k0_pay15 r k) (k0_pay16 r k))

/-- The two words one group of rounds later. -/
def late (r k : BitVec 32) : IVec S8x2048 32 × IVec S8x2048 32 :=
  (k0_pay39 (half r k).1 (half r k).2 15#32, k0_pay40 (half r k).1 (half r k).2 15#32)

/-- The mantissa words of block `k` of row block `r`: the random words shifted right by nine. -/
def mant (r k : BitVec 32) : IVec S8x2048 32 := k0_pay41 (late r k).1 (late r k).2 24#32

/-- The exponentials of block `k` of row block `r` from the logits `x` staged for it. -/
def expBlock (r k : BitVec 32) (x : Vec F S8x2048 .f32) : Vec F S8x2048 .f32 :=
  k0_pay1 (k0_pay7 k) (mant r k) 1065353216#32 x

/-- The kept blocks with block `k` replaced. -/
def putBlock (k : ℕ) (f : Vec F S49x8x2048 .f32) (w : Vec F S8x2048 .f32) : Vec F S49x8x2048 .f32 :=
  fun j => if (j 0).val = k then w (ix2 (j 1) (j 2)) else f j

/-- Block `k` of the kept blocks. -/
def getBlock (k : Fin 49) (f : Vec F S49x8x2048 .f32) : Vec F S8x2048 .f32 := fun j => f (ix3 k (j 0) (j 1))

theorem off1_eq (i : grid0.Coords) : k0_off1 i = ![(i 2).val, 0, 0] := by
  have h : (i 2).val < 49 := (i 2).isLt
  have e : (BitVec.ofNat 32 (i 2).val).toNat = (i 2).val := by
    rw [BitVec.toNat_ofNat]; exact Nat.mod_eq_of_lt (by omega)
  show ![(BitVec.ofNat 32 (i 2).val).toNat, 0, 0] = _
  rw [e]

theorem off2_eq (i : grid0.Coords) : k0_off2 i = ![(i 2).val, 0, 0] := off1_eq i

/-- A store into a whole buffer, as the one write over its contents. -/
theorem write_eq_writes {κ : Kind} (b : Ref sig κ) (r : Rect b.ty.shape) (f : b.ty.Contents (Elt F)) (w) :
    ((Memref.whole b).access r : View sig κ _ _ _).write (Elt F) f w Finset.univ
      = (Memref.whole b : Memref sig κ _ _ _).view.read (Elt F)
          ((Memref.whole b : Memref sig κ _ _ _).view.writes (Elt F) f [⟨r, w⟩]) := by
  rfl

/-- A store of a block at the point's block index replaces that block. -/
theorem write_block (i : grid0.Coords) (inb) (h) (f : Vec F S49x8x2048 .f32) (w : Vec F S8x2048 .f32) :
    (((Memref.whole cc0_scratch0).access (Rect.unit (s := S49x8x2048) (k0_off1 i) S1x8x2048.size inb)) :
      View sig .tc _ _ _).write (Elt F) f (shapeCast S1x8x2048 w h) Finset.univ = putBlock (i 2).val f w := by
  rw [write_eq_writes cc0_scratch0]
  funext j
  unfold putBlock
  by_cases hk : (j 0).val = (i 2).val
  · rw [if_pos hk]
    have e := View.read_writes_cons_unit_of_mem (Val := Elt F) (Memref.whole cc0_scratch0 : Memref sig .tc _ _ _).view f
      (off := k0_off1 i) (off' := ![(i 2).val, 0, 0]) (size := S1x8x2048.size) inb
    have e2 := e (shapeCast S1x8x2048 w h) []
    have e3 := e2 j (ix3 (0 : Fin 1) (j 1) (j 2)) (off1_eq i)
    refine (e3 ?_).trans ?_
    · intro a
      match a with
      | ⟨0, _⟩ => exact hk
      | ⟨1, _⟩ => exact (Nat.zero_add _).symm
      | ⟨2, _⟩ => exact (Nat.zero_add _).symm
    · exact (shapeCast_ab_1ab_apply w h 0 (j 1) (j 2))
  · rw [if_neg hk]
    have e := View.read_writes_cons_unit_of_not_mem (Val := Elt F) (Memref.whole cc0_scratch0 : Memref sig .tc _ _ _).view f
      (off := k0_off1 i) (off' := ![(i 2).val, 0, 0]) (size := S1x8x2048.size) inb
    have e2 := e (shapeCast S1x8x2048 w h) []
    have e3 := e2 j (off1_eq i) 0
    refine (e3 ?_).trans rfl
    show (j 0).val < (i 2).val ∨ (i 2).val + 1 ≤ (j 0).val
    omega

/-- A load of the point's block reads it. -/
theorem read_block (i : grid0.Coords) (inb) (h) (f : Vec F S49x8x2048 .f32) :
    shapeCast S8x2048 ((Memref.whole cc0_scratch0 : Memref sig .tc _ _ _).view.readAt (Elt F)
      (Rect.unit (s := S49x8x2048) (k0_off2 i) S1x8x2048.size inb).toLoadRect f) h = getBlock (i 2) f := by
  funext j
  obtain ⟨a, b, rfl⟩ : ∃ (a : Fin 8) (b : Fin 2048), j = ix2 a b := ⟨j 0, j 1, eq_ix2 j⟩
  rw [shapeCast_1ab_ab_apply]
  show f _ = f _
  congr 1
  funext d
  apply Fin.ext
  have e := off2_eq i
  match d with
  | ⟨0, _⟩ => show (k0_off2 i 0) + 1 * 0 = (i 2).val; rw [e]; simp
  | ⟨1, _⟩ => show (k0_off2 i 1) + 1 * a.val = a.val; rw [e]; simp
  | ⟨2, _⟩ => show (k0_off2 i 2) + 1 * b.val = b.val; rw [e]; simp

end Cert.Proof.Block
end
-- ==== Proof.Body.lean ====
/- The kernel body at one grid point: in the first phase it keeps the block's exponentials and adds them to the running
   sum; in the second it multiplies the kept block by the reciprocal of the row sums. -/
module

public import proofs.«01_k».proof.Proof.Block
public import Idealize.ShloMosaic.Lib.Pipeline.KitQuiescent
public import Idealize.ShloMosaic.Lib.Tactic

@[expose] public section

set_option maxRecDepth 16384

noncomputable section

namespace Cert.Proof.Body

open Cert.KernelIdeal Cert.KernelIdeal.Gen Cert.Proof.Block

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- The three arrays kept from point to point, whole, holding these. -/
def kept (c : Dev nD) (f5 : Vec F S49x8x2048 .f32) (f6 f7 : Vec F S8x2048 .f32) : sProp 𝕄 :=
  iprop(((c : Thread nD τ).loc cc0_scratch0 ↦{fullShare} f5) ∗ ((c : Thread nD τ).loc cc0_scratch1 ↦{fullShare} f6)
    ∗ ((c : Thread nD τ).loc cc0_scratch2 ↦{fullShare} f7))

/-- The test the body makes of the block index. -/
abbrev atStart (i : grid0.Coords) : BitVec 1 :=
  Scalar.cmpi .ne (Scalar.extui (Scalar.cmpi .eq (BitVec.ofNat 32 (i 2).val) 0#32) : BitVec 32) 0#32

/-- The random words' row block and block index at a point. -/
abbrev rOf (i : grid0.Coords) : BitVec 32 := BitVec.ofNat 32 (i 0).val
abbrev kOf (i : grid0.Coords) : BitVec 32 := BitVec.ofNat 32 (i 2).val

theorem hz2 : (![0, 0] : Fin 2 → Nat) = fun _ => 0 := funext fun a => by fin_cases a <;> rfl

/-- After a store over the whole buffer it holds what was stored. -/
theorem writes_whole {κ : Kind} (b : Ref sig κ) {off : Fin b.ty.shape.rank → ℕ}
    (inb : ∀ a, off a + b.ty.shape.size a ≤ b.ty.shape.size a) (f : b.ty.Contents (Elt F)) (w : b.ty.Contents (Elt F)) (L) :
    (Memref.whole b : Memref sig κ _ _ _).view.writes (Elt F) f (⟨Rect.unit off b.ty.shape.size inb, w⟩ :: L) = w :=
  View.read_writes_full (Memref.whole b : Memref sig κ _ _ _).view f inb w L

set_option maxHeartbeats 1000000 in
/-- The first phase's point: block `k` of the kept exponentials is the block's, and the running sum, begun at zero at the
    row block's first point, has them added. -/
theorem first_phase (c : Dev nD) (E : Set ℕ) (i : grid0.Coords) (h1 : k0_cond1 i = 1#1) (h3 : ¬ k0_cond3 i = 1#1)
    (s0 s1 : Fin 2) (X : S8x2048.Idx → Elt F .f32) (f5 : Vec F S49x8x2048 .f32) (f6 f7 : Vec F S8x2048 .f32) (K : PUnit → sProp 𝕄) :
    iprop((owns (c : Thread nD τ) (stage0_0 s0) fullShare X ∗ kept c f5 f6 f7)
          ∗ (iprop(owns (c : Thread nD τ) (stage0_0 s0) fullShare X
                ∗ kept c (putBlock (i 2).val f5 (expBlock (rOf i) (kOf i) X))
                    (addf (if atStart i = 1#1 then k0_pay6 else f6) (expBlock (rOf i) (kOf i) X)) f7) -∗ K ⟨⟩))
      ⊢ wp frame (wpE (defs₀ (F := F)) 𝒱₀ c none) E
          (cc0__kernel i (stage0_0 s0) (hstage0_0 s0) (stage0_1 s1) (hstage0_1 s1) (Memref.whole cc0_scratch0) (Memref.isWhole_whole _)
            (Memref.whole cc0_scratch1) (Memref.isWhole_whole _) (Memref.whole cc0_scratch2) (Memref.isWhole_whole _)) K := by
  have hr6 : (Memref.whole cc0_scratch1 : Memref sig .tc _ _ _).view.readAt (Elt F) (Rect.unit (s := S8x2048) ![0, 0] S8x2048.size
        inb_S8x2048_S8x2048_0_0).toLoadRect = id := funext (Memref.readAt_unit_zero (Elt F) cc0_scratch1 hz2 _)
  have hw6 : ∀ f w, (((Memref.whole cc0_scratch1).access (Rect.unit (s := S8x2048) ![0, 0] S8x2048.size inb_S8x2048_S8x2048_0_0)) :
        View sig .tc _ _ _).write (Elt F) f w Finset.univ = w := Memref.write_access_unit_zero_univ (Elt F) cc0_scratch1 hz2 _
  have hw5 : ∀ (v16 v185 : IVec S8x2048 32) (b : BitVec 32) (w : Vec F S8x2048 .f32),
      (((Memref.whole cc0_scratch0).access (Rect.unit (s := S49x8x2048) (k0_off1 i) S1x8x2048.size (k0_off1_inb i h1))) :
        View sig .tc _ _ _).write (Elt F) f5 (k0_pay2 v16 v185 b w) Finset.univ
          = putBlock (i 2).val f5 (k0_pay1 v16 v185 b w) := fun v16 v185 b w => write_block i _ _ f5 _
  have hp3 : ∀ (v16 v185 : IVec S8x2048 32) (b : BitVec 32) (w v : Vec F S8x2048 .f32),
      k0_pay3 v16 v185 b w v = addf v (k0_pay1 v16 v185 b w) := fun v16 v185 b w v => shapeCast_self _ _
  have hW6 : ∀ (f : Vec F S8x2048 .f32) (w) (L), (Memref.whole cc0_scratch1 : Memref sig .tc _ _ _).view.writes (Elt F) f
      (⟨Rect.unit (s := S8x2048) ![0, 0] S8x2048.size inb_S8x2048_S8x2048_0_0, w⟩ :: L) = w := fun f w L =>
    writes_whole cc0_scratch1 inb_S8x2048_S8x2048_0_0 f w L
  have hr3 : (Memref.whole cc0_stg0_0 : Memref sig .tc _ _ _).view.readAt (Elt F) (Rect.unit (s := S8x2048) ![0, 0] S8x2048.size
        inb_S8x2048_S8x2048_0_0).toLoadRect = id := funext (Memref.readAt_unit_zero (Elt F) cc0_stg0_0 hz2 _)
  have hr3' : (Memref.whole cc0_stg0_1 : Memref sig .tc _ _ _).view.readAt (Elt F) (Rect.unit (s := S8x2048) ![0, 0] S8x2048.size
        inb_S8x2048_S8x2048_0_0).toLoadRect = id := funext (Memref.readAt_unit_zero (Elt F) cc0_stg0_1 hz2 _)
  fin_cases s0 <;> by_cases h2 : atStart i = 1#1
  all_goals
    simp only [kept, owns_whole_eq, cc0__kernel_eq_skeleton]; unfold cc0__kernel_skel
    rw [dif_pos h1, dif_neg h3]
    simp only [k0_part1_eq_skeleton, k0_part2_eq_skeleton, k0_part3_eq_skeleton, k0_part4_eq_skeleton]
    unfold k0_part1_skel k0_part2_skel k0_part3_skel k0_part4_skel
    first | rw [dif_pos h2, if_pos h2] | rw [dif_neg h2, if_neg h2]
    simp only [Prog.lift, Prog.bind_op, Prog.bind_ret, pure_bind]
    iintro ⟨⟨⟨%f0, %hf0, H0⟩, H5, H6, H7⟩, Hk⟩
    sl_steps
    iapply Hk
    first | rw [hr3] | rw [hr3']
    first | rw [hw5, hW6, hr6, hw6, hp3] | rw [hw5, hr6, hw6, hp3]
    isplitl [H0]
    · iexists f0; isplitr; · ipureintro; exact hf0
      iexact H0
    subst hf0
    isplitl [H5]; · iexact H5
    isplitl [H6]; · iexact H6
    iexact H7

set_option maxHeartbeats 1000000 in
/-- The second phase's point: the reciprocals, taken of the running sum at the row block's first point, are kept, and the
    result's block is the kept exponentials times them. -/
theorem second_phase (c : Dev nD) (E : Set ℕ) (i : grid0.Coords) (h1 : ¬ k0_cond1 i = 1#1) (h3 : k0_cond3 i = 1#1)
    (s0 s1 : Fin 2) (Y : S8x2048.Idx → Elt F .f32) (f5 : Vec F S49x8x2048 .f32) (f6 f7 : Vec F S8x2048 .f32) (K : PUnit → sProp 𝕄) :
    iprop((owns (c : Thread nD τ) (stage0_1 s1) fullShare Y ∗ kept c f5 f6 f7)
          ∗ (iprop(owns (c : Thread nD τ) (stage0_1 s1) fullShare (mulf (getBlock (i 2) f5) (if atStart i = 1#1 then k0_pay4 f6 else f7))
                ∗ kept c f5 f6 (if atStart i = 1#1 then k0_pay4 f6 else f7)) -∗ K ⟨⟩))
      ⊢ wp frame (wpE (defs₀ (F := F)) 𝒱₀ c none) E
          (cc0__kernel i (stage0_0 s0) (hstage0_0 s0) (stage0_1 s1) (hstage0_1 s1) (Memref.whole cc0_scratch0) (Memref.isWhole_whole _)
            (Memref.whole cc0_scratch1) (Memref.isWhole_whole _) (Memref.whole cc0_scratch2) (Memref.isWhole_whole _)) K := by
  have hr6 : (Memref.whole cc0_scratch1 : Memref sig .tc _ _ _).view.readAt (Elt F) (Rect.unit (s := S8x2048) ![0, 0] S8x2048.size
        inb_S8x2048_S8x2048_0_0).toLoadRect = id := funext (Memref.readAt_unit_zero (Elt F) cc0_scratch1 hz2 _)
  have hr7 : (Memref.whole cc0_scratch2 : Memref sig .tc _ _ _).view.readAt (Elt F) (Rect.unit (s := S8x2048) ![0, 0] S8x2048.size
        inb_S8x2048_S8x2048_0_0).toLoadRect = id := funext (Memref.readAt_unit_zero (Elt F) cc0_scratch2 hz2 _)
  have hw7 : ∀ f w, (((Memref.whole cc0_scratch2).access (Rect.unit (s := S8x2048) ![0, 0] S8x2048.size inb_S8x2048_S8x2048_0_0)) :
        View sig .tc _ _ _).write (Elt F) f w Finset.univ = w := Memref.write_access_unit_zero_univ (Elt F) cc0_scratch2 hz2 _
  have hw4 : ∀ f w, (((Memref.whole cc0_stg1_0).access (Rect.unit (s := S8x2048) ![0, 0] S8x2048.size inb_S8x2048_S8x2048_0_0)) :
        View sig .tc _ _ _).write (Elt F) f w Finset.univ = w := Memref.write_access_unit_zero_univ (Elt F) cc0_stg1_0 hz2 _
  have hw4' : ∀ f w, (((Memref.whole cc0_stg1_1).access (Rect.unit (s := S8x2048) ![0, 0] S8x2048.size inb_S8x2048_S8x2048_0_0)) :
        View sig .tc _ _ _).write (Elt F) f w Finset.univ = w := Memref.write_access_unit_zero_univ (Elt F) cc0_stg1_1 hz2 _
  have hp5 : ∀ (v : Vec F S8x2048 .f32), k0_pay5 ((Memref.whole cc0_scratch0 : Memref sig .tc _ _ _).view.readAt (Elt F)
      (Rect.unit (s := S49x8x2048) (k0_off2 i) S1x8x2048.size (k0_off2_inb i h3)).toLoadRect f5) v = mulf (getBlock (i 2) f5) v := fun v => by
    rw [← read_block i (k0_off2_inb i h3) shapeCasts_S1x8x2048_S8x2048 f5]; rfl
  fin_cases s1 <;> by_cases h2 : atStart i = 1#1
  all_goals
    simp only [kept, owns_whole_eq, cc0__kernel_eq_skeleton]; unfold cc0__kernel_skel
    rw [dif_neg h1, dif_pos h3]
    first | rw [dif_pos h2, if_pos h2] | rw [dif_neg h2, if_neg h2]
    simp only [Prog.lift, Prog.bind_op, Prog.bind_ret, pure_bind]
    iintro ⟨⟨⟨%f0, %hf0, H0⟩, H5, H6, H7⟩, Hk⟩
    sl_steps
    iapply Hk
    first | rw [hw4] | rw [hw4']
    first | rw [hp5, hw7, hr7, hr6] | rw [hp5, hr7]
    isplitl [H0]
    · iexists _; isplitr
      swap; · iexact H0
      ipureintro; rfl
    isplitl [H5]; · iexact H5
    isplitl [H6]; · iexact H6
    iexact H7

end Cert.Proof.Body
end
-- ==== Proof.Track.lean ====
/- What the three kept arrays hold as the grid is walked: the exponentials stored so far, their running sum, and, in the
   second phase, the reciprocals of the row sums. -/
module

public import proofs.«01_k».proof.Proof.Block

@[expose] public section

set_option maxRecDepth 16384

noncomputable section

namespace Cert.Proof.Track

open Idealize.ShloMosaic Idealize.ShloMosaic.ValueIdx Cert.KernelIdeal Cert.KernelIdeal.Gen Cert.Proof.Block

variable {F : FTy → Type} [FloatOps F]

/-- Block `(r, k)` of the logits, with zero past the array's end. -/
def xin (A : Vec F S128x100000 .f32) (r k : ℕ) : Vec F S8x2048 .f32 := fun j =>
  if h : r * 8 + (j 0).val < 128 ∧ k * 2048 + (j 1).val < 100000 then
    A (ix2 ⟨r * 8 + (j 0).val, h.1⟩ ⟨k * 2048 + (j 1).val, h.2⟩)
  else Scalar.ofBits .f32 0#32

/-- The exponentials of block `(r, k)`. -/
def expo (A : Vec F S128x100000 .f32) (r k : ℕ) : Vec F S8x2048 .f32 :=
  expBlock (BitVec.ofNat 32 r) (BitVec.ofNat 32 k) (xin A r k)

/-- The running sum of the first blocks of row block `r`. -/
def fold (A : Vec F S128x100000 .f32) (r : ℕ) : ℕ → Vec F S8x2048 .f32
  | 0 => k0_pay6
  | n + 1 => addf (fold A r n) (expo A r n)

/-- The reciprocals of row block `r`'s row sums. -/
def recip (A : Vec F S128x100000 .f32) (r : ℕ) : Vec F S8x2048 .f32 := k0_pay4 (fold A r 49)

/-- The result's block `(r, k)`. -/
def out (A : Vec F S128x100000 .f32) (r k : ℕ) : Vec F S8x2048 .f32 := mulf (expo A r k) (recip A r)

/-- The kept arrays before point `n`, which is point `n % 49` of phase `n / 49 % 2` of row block `n / 98`. -/
def Inv (A : Vec F S128x100000 .f32) (n : ℕ) (f5 : Vec F S49x8x2048 .f32) (f6 f7 : Vec F S8x2048 .f32) : Prop :=
  if n % 98 < 49 then
    (∀ j : S49x8x2048.Idx, (j 0).val < n % 49 → f5 j = expo A (n / 98) (j 0).val (ix2 (j 1) (j 2)))
      ∧ (0 < n % 49 → f6 = fold A (n / 98) (n % 49))
  else
    (∀ j : S49x8x2048.Idx, f5 j = expo A (n / 98) (j 0).val (ix2 (j 1) (j 2)))
      ∧ f6 = fold A (n / 98) 49 ∧ (0 < n % 49 → f7 = recip A (n / 98))

theorem inv_zero (A : Vec F S128x100000 .f32) (f5 f6 f7) : Inv A 0 f5 f6 f7 := by
  unfold Inv
  rw [if_pos (by decide)]
  exact ⟨fun j h => absurd h (Nat.not_lt_zero _), fun h => absurd h (by decide)⟩

/-- A first-phase point carries the invariant on. -/
theorem inv_first (A : Vec F S128x100000 .f32) (n : ℕ) (hn : n % 98 < 49) {f5 f6 f7} (h : Inv A n f5 f6 f7) :
    Inv A (n + 1) (putBlock (n % 49) f5 (expo A (n / 98) (n % 49)))
      (addf (if n % 49 = 0 then k0_pay6 else f6) (expo A (n / 98) (n % 49))) f7 := by
  unfold Inv at h
  rw [if_pos hn] at h
  have hd : (n + 1) / 98 = n / 98 := by omega
  have h6 : addf (if n % 49 = 0 then k0_pay6 else f6) (expo A (n / 98) (n % 49)) = fold A (n / 98) (n % 49 + 1) := by
    show _ = addf (fold A (n / 98) (n % 49)) _
    by_cases h0 : n % 49 = 0
    · rw [if_pos h0, h0]; rfl
    · rw [if_neg h0, h.2 (Nat.pos_of_ne_zero h0)]
  have h5 : ∀ j : S49x8x2048.Idx, (j 0).val < n % 49 + 1 →
      putBlock (n % 49) f5 (expo A (n / 98) (n % 49)) j = expo A (n / 98) (j 0).val (ix2 (j 1) (j 2)) := by
    intro j hj
    unfold putBlock
    by_cases hk : (j 0).val = n % 49
    · rw [if_pos hk, hk]
    · rw [if_neg hk]; exact h.1 j (by omega)
  unfold Inv
  rw [hd]
  by_cases hl : n % 49 = 48
  · rw [if_neg (by omega)]
    refine ⟨fun j => h5 j ?_, ?_, fun h => absurd h (by omega)⟩
    · have : (j 0).val < 49 := (j 0).isLt
      omega
    · rw [h6, hl]
  · rw [if_pos (by omega), show (n + 1) % 49 = n % 49 + 1 by omega]
    exact ⟨h5, fun _ => h6⟩

/-- In the second phase the kept block is the block's exponentials and the reciprocals used are the row block's. -/
theorem inv_uses (A : Vec F S128x100000 .f32) (n : ℕ) (hn : ¬ n % 98 < 49) {f5 f6 f7} (h : Inv A n f5 f6 f7) (k : Fin 49) :
    getBlock k f5 = expo A (n / 98) k.val ∧ (if n % 49 = 0 then k0_pay4 f6 else f7) = recip A (n / 98) := by
  unfold Inv at h
  rw [if_neg hn] at h
  constructor
  · funext j
    unfold getBlock
    rw [h.1]
    exact congrArg _ (eq_ix2 j).symm
  · by_cases h0 : n % 49 = 0
    · rw [if_pos h0, h.2.1]; rfl
    · rw [if_neg h0]; exact h.2.2 (Nat.pos_of_ne_zero h0)

/-- A second-phase point carries the invariant on. -/
theorem inv_second (A : Vec F S128x100000 .f32) (n : ℕ) (hn : ¬ n % 98 < 49) {f5 f6 f7} (h : Inv A n f5 f6 f7) :
    Inv A (n + 1) f5 f6 (if n % 49 = 0 then k0_pay4 f6 else f7) := by
  have hu := (inv_uses A n hn h 0).2
  unfold Inv at h
  rw [if_neg hn] at h
  unfold Inv
  by_cases hl : n % 98 = 97
  · rw [if_pos (by omega), show (n + 1) % 49 = 0 by omega]
    exact ⟨fun j h => absurd h (Nat.not_lt_zero _), fun h => absurd h (by decide)⟩
  · have hd : (n + 1) / 98 = n / 98 := by omega
    rw [if_neg (by omega), hd]
    exact ⟨h.1, h.2.1, fun _ => hu⟩

/-! ## Lanes past the array's end -/

/-- The column numbers of block `k`. -/
theorem col_apply (k : ℕ) (j : S8x2048.Idx) : k0_pay7 (BitVec.ofNat 32 k) j = BitVec.ofNat 32 (k * 2048 + (j 1).val) := by
  show Scalar.muli (BitVec.ofNat 32 k) 2048#32 + BitVec.ofNat 32 (0 * 2048 + (j 1).val) = _
  rw [Nat.zero_mul, Nat.zero_add, BitVec.ofNat_add, BitVec.ofNat_mul]
  rfl

theorem col_lt (n : ℕ) (hn : n < 2 ^ 31) : Scalar.cmpi .slt (BitVec.ofNat 32 n) 100000#32 = if n < 100000 then 1#1 else 0#1 := by
  have e : (BitVec.ofNat 32 n).toInt = n := by
    rw [BitVec.toInt_eq_toNat_of_lt] <;> rw [BitVec.toNat_ofNat, Nat.mod_eq_of_lt (by omega)]
    omega
  have e2 : (BitVec.slt (BitVec.ofNat 32 n) 100000#32) = decide (n < 100000) := by
    rw [BitVec.slt, e]
    have : (100000#32).toInt = 100000 := by decide
    rw [this]
    simp
  show IntOp.cmpi .slt _ _ = _
  simp only [IntOp.cmpi, e2]
  by_cases h : n < 100000 <;> simp [h]

/-- The exponentials at an index: the exponential of the logit plus its noise inside the array, zero past its end. -/
theorem expBlock_apply (r : BitVec 32) (k : ℕ) (hk : k < 49) (x : Vec F S8x2048 .f32) (j : S8x2048.Idx) :
    expBlock r (BitVec.ofNat 32 k) x j = if k * 2048 + (j 1).val < 100000 then
      FloatOps.exp (FloatOps.addf (x j) (FloatOps.subf (Scalar.ofBits .f32 0x00000000#32) (FloatOps.log (FloatOps.subf (Scalar.ofBits .f32 0x2EDBE6FF#32)
        (FloatOps.log (FloatOps.addf (FloatOps.subf (FloatOps.ofBits .f32 (mant r (BitVec.ofNat 32 k) j ||| 1065353216#32)) (Scalar.ofBits .f32 0x3F800000#32)) (Scalar.ofBits .f32 0x2EDBE6FF#32)))))))
    else Scalar.ofBits .f32 0x00000000#32 := by
  have h1 : (j 1).val < 2048 := (j 1).isLt
  show Scalar.select (Scalar.cmpi .slt (k0_pay7 (BitVec.ofNat 32 k) j) 100000#32) _ _ = _
  rw [col_apply, col_lt _ (by omega)]
  by_cases h : k * 2048 + (j 1).val < 100000
  · rw [if_pos h, if_pos h]; rfl
  · rw [if_neg h, if_neg h]; rfl

/-- What is staged past the array's end does not matter. -/
theorem expBlock_congr (r : BitVec 32) (k : ℕ) (hk : k < 49) (x y : Vec F S8x2048 .f32)
    (h : ∀ j : S8x2048.Idx, k * 2048 + (j 1).val < 100000 → x j = y j) :
    expBlock r (BitVec.ofNat 32 k) x = expBlock r (BitVec.ofNat 32 k) y := by
  funext j
  rw [expBlock_apply r k hk, expBlock_apply r k hk]
  by_cases hc : k * 2048 + (j 1).val < 100000
  · rw [if_pos hc, if_pos hc, h j hc]
  · rw [if_neg hc, if_neg hc]

end Cert.Proof.Track
end
-- ==== Proof.Points.lean ====
/- The grid's points by number: point `t` is point `t % 49` of phase `t / 49 % 2` of row block `t / 98`. -/
module

public import proofs.«01_k».proof.Proof.Body
public import proofs.«01_k».proof.Proof.Track

@[expose] public section

set_option maxRecDepth 16384

noncomputable section

namespace Cert.Proof.Points

open Idealize.ShloMosaic Cert.KernelIdeal Cert.KernelIdeal.Gen Cert.Proof.Body

theorem coord_0 : ∀ t : Fin cfg0.N, (grid0.coords t 0).val = t.val / 98 := by decide +kernel
theorem coord_2 : ∀ t : Fin cfg0.N, (grid0.coords t 2).val = t.val % 49 := by decide +kernel
theorem cond_first : ∀ t : Fin cfg0.N, (k0_cond1 (grid0.coords t) = 1#1) ↔ t.val % 98 < 49 := by decide +kernel
theorem cond_second : ∀ t : Fin cfg0.N, (k0_cond3 (grid0.coords t) = 1#1) ↔ ¬ t.val % 98 < 49 := by decide +kernel
theorem cond_start : ∀ t : Fin cfg0.N, (atStart (grid0.coords t) = 1#1) ↔ t.val % 49 = 0 := by decide +kernel
theorem flush_1 : ∀ t : Fin cfg0.N, (cfg0.win (1 : Fin 2)).flush t = !decide (t.val % 98 < 49) := by decide +kernel
theorem in_0 : ∀ t : Fin cfg0.N, win0_0.index t 0 = t.val / 98 := by decide +kernel
theorem in_1 : ∀ t : Fin cfg0.N, t.val % 98 < 49 → win0_0.index t 1 = t.val % 49 := by decide +kernel
theorem out_0 : ∀ t : Fin cfg0.N, win0_1.index t 0 = t.val / 98 := by decide +kernel
theorem out_1 : ∀ t : Fin cfg0.N, ¬ t.val % 98 < 49 → win0_1.index t 1 = t.val % 49 := by decide +kernel

end Cert.Proof.Points
end
-- ==== Proof.Run.lean ====
/- The kernel's run: every weakly fair execution ends, the logits are unchanged, and the result holds, block by block, the
   exponentials times the reciprocals of their row sums. -/
module

public import proofs.«01_k».proof.Proof.Points
public import Idealize.ShloMosaic.Lib.Pipeline.ValueKit
public import Idealize.ShloMosaic.Lib.Pipeline.Covers

@[expose] public section

set_option maxRecDepth 16384

noncomputable section

namespace Cert.Proof.Run

open Cert.KernelIdeal Cert.KernelIdeal.Gen Cert.Proof.Block Cert.Proof.Track Cert.Proof.Body Cert.Proof.Points

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The logits of a device. -/
abbrev logits (c : Dev nD) : Vec F S128x100000 .f32 := m ((c : Thread nD τ).loc main_arg0)

/-- What is carried from point to point: the three kept arrays under the invariant, and the generator's register. -/
def carried (c : Dev nD) (n : ℕ) : sProp 𝕄 :=
  iprop((∃ f5 : Vec F S49x8x2048 .f32, ∃ f6 : Vec F S8x2048 .f32, ∃ f7 : Vec F S8x2048 .f32,
    ⌜Inv (logits m c) n f5 f6 f7⌝ ∗ kept c f5 f6 f7) ∗ ∃ r, prngReg c r)

/-- The proof data: after a point the input's buffer holds its block and the result's buffer the result's block. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => out (logits m c) (t.val / 98) (t.val % 49)
  Φ t := carried m c t.val
  q _ := fullShare
  owed _ := 0

/-- The input's buffer arrives holding its block, with anything past the array's end. -/
theorem before_0 (c : Dev nD) (t : Fin cfg0.N) (d) :
    (dats m 0 c).before (0 : Fin 2) t d = win0_0.fill (grid0.coords t) d (iblk m c 0 t) :=
  (dats m 0 c).before_in_eq_fetched (0 : Fin 2) rfl (fun _ => rfl)
    (fun t t' h => funext fun a => by
      show Pipeline.Clip.of (win0_0.index t a) _ _ = Pipeline.Clip.of (win0_0.index t' a) _ _
      rw [show win0_0.index t = win0_0.index t' from h])
    (fun t => win0_0.cut_fill _ _ _) t d

/-- A block's lane is moved exactly if it lies inside the array. -/
theorem lt_extent (ix k d j : ℕ) (hj : j < k) (h : ix * k + j < d) : j < (Pipeline.Clip.of ix k d).extent k := by
  unfold Pipeline.Clip.of
  split
  · exact hj
  · show j < d - ix * k
    omega

/-- The staged block inside the array is the logits' block. -/
theorem staged (c : Dev nD) (t : Fin cfg0.N) (ht : t.val % 98 < 49) (d) (j : S8x2048.Idx)
    (hj : t.val % 49 * 2048 + (j 1).val < 100000) :
    win0_0.fill (grid0.coords t) d (iblk m c 0 t) j = xin (logits m c) (t.val / 98) (t.val % 49) j := by
  have hN : t.val < 1568 := lt_of_lt_of_eq t.isLt N_0
  have h0 : (j 0).val < 8 := (j 0).isLt
  have h1 : (j 1).val < 2048 := (j 1).isLt
  have hr : t.val / 98 * 8 + (j 0).val < 128 := by omega
  have hm : win0_0.moved (grid0.coords t) j = true := by
    rw [win0_0.moved_iff]
    intro a
    match a with
    | ⟨0, _⟩ =>
      refine lt_extent (win0_0.index t 0) 8 128 (j 0).val h0 ?_
      rw [in_0 t]; exact hr
    | ⟨1, _⟩ =>
      refine lt_extent (win0_0.index t 1) 2048 100000 (j 1).val h1 ?_
      rw [in_1 t ht]; exact hj
  unfold xin Window.fill
  rw [dif_pos hm, dif_pos ⟨hr, hj⟩]
  show logits m c _ = logits m c _
  congr 1
  funext a
  apply Fin.ext
  match a with
  | ⟨0, _⟩ => exact (Pipeline.Window.rect_emb_val win0_0 t _ 0).trans (by rw [in_0 t]; rfl)
  | ⟨1, _⟩ => exact (Pipeline.Window.rect_emb_val win0_0 t _ 1).trans (by rw [in_1 t ht]; rfl)

/-- So the block's exponentials are the ones tracked. -/
theorem staged_expo (c : Dev nD) (t : Fin cfg0.N) (ht : t.val % 98 < 49) (d) :
    expBlock (rOf (grid0.coords t)) (kOf (grid0.coords t)) (win0_0.fill (grid0.coords t) d (iblk m c 0 t))
      = expo (logits m c) (t.val / 98) (t.val % 49) := by
  unfold expo rOf kOf
  rw [coord_0 t, coord_2 t]
  exact expBlock_congr _ _ (Nat.mod_lt _ (by decide)) _ _ fun j hj => staged m c t ht d j hj

/-! ## The body at a point -/

theorem idle_1 (t : Fin cfg0.N) : cfg0.idle (1 : Fin 2) (cfg0.grid.coords t) = decide (t.val % 98 < 49) := by
  show (!(k0_cond3 (grid0.coords t) == 1#1)) = _
  by_cases h : t.val % 98 < 49
  · rw [decide_eq_true h]
    have := mt (cond_second t).1 (not_not.2 h)
    simp [this]
  · rw [decide_eq_false h, (cond_second t).2 h]; rfl

/-- The input's window is idle at no point. -/
theorem idle_0 (t : Fin cfg0.N) : cfg0.idle (0 : Fin 2) (cfg0.grid.coords t) = false := rfl
theorem loose_0 : cfg0.loose (0 : Fin 2) = true := by decide +kernel
theorem loose_1 : cfg0.loose (1 : Fin 2) = true := by decide +kernel

/-- The body keeps what is carried and leaves each buffer as the proof data says. -/
theorem body_obligation (c : Dev nD) : BodyObligationLoose (dats m 0 c) (defs₀ (F := F)) 𝒱₀ () Set.univ := fun t => by
  rw [bigSep_W0, bigSep_W0]
  have hi := idle_1 t
  have hfl := flush_1 t
  by_cases ht : t.val % 98 < 49
  · rw [decide_eq_true ht] at hi hfl
    have hi' : idle0 1 (grid0.coords t) = true := hi
    simp only [hi, hi', hfl, Bool.not_true, idle_0, loose_0, loose_1]
    rw [show (dats m 0 c).owesAt () t.succ = (dats m 0 c).owesAt () t.castSucc from rfl]
    rw [show (dats m 0 c).Φ t.castSucc = carried m c t.val from rfl, show (dats m 0 c).Φ t.succ = carried m c (t.val + 1) from rfl]
    unfold carried
    iintro ⟨⟨⟨%f5, %f6, %f7, %hinv, Hk⟩, Hp⟩, Ho, ⟨%d0, H0⟩, H1⟩
    rw [before_0 m c t d0]
    iapply (first_phase (F := F) c Set.univ (grid0.coords t) ((cond_first t).2 ht) (fun h => (cond_second t).1 h ht)
      (cfg0.slots t 0) (cfg0.slots t 1) (win0_0.fill (grid0.coords t) d0 (iblk m c 0 t)) f5 f6 f7 _)
    isplitl [H0 Hk]
    · isplitl [H0]; · iexact H0
      iexact Hk
    iintro ⟨H0, Hk⟩
    isplitl [Hk Hp]
    · isplitl [Hk]
      · iexists _, _, _
        isplitr
        swap; · iexact Hk
        ipureintro
        have h := inv_first (logits m c) t.val ht hinv
        rw [staged_expo m c t ht d0, coord_2 t]
        simp only [cond_start t]
        exact h
      · iexact Hp
    isplitl [Ho]; · iexact Ho
    isplitl [H0]
    · iexists d0
      change _ ⊢ owns (c : Thread nD τ) (stage0_0 (cfg0.slots t 0)) fullShare (win0_0.fill (grid0.coords t) d0
        (win0_0.cut (grid0.coords t) (win0_0.fill (grid0.coords t) (fun _ => Scalar.ofBits .f32 0#32) (iblk m c 0 t))))
      rw [win0_0.cut_fill]; try iexact H0
    · iexact H1
  · rw [decide_eq_false ht] at hi hfl
    have hi' : idle0 1 (grid0.coords t) = false := hi
    simp only [hi, hi', hfl, Bool.not_false, idle_0, loose_0, loose_1]
    rw [show (dats m 0 c).owesAt () t.succ = (dats m 0 c).owesAt () t.castSucc from rfl]
    rw [show (dats m 0 c).Φ t.castSucc = carried m c t.val from rfl, show (dats m 0 c).Φ t.succ = carried m c (t.val + 1) from rfl]
    unfold carried
    iintro ⟨⟨⟨%f5, %f6, %f7, %hinv, Hk⟩, Hp⟩, Ho, ⟨%d0, H0⟩, ⟨%d1, H1⟩⟩
    rw [before_0 m c t d0]
    iapply (second_phase (F := F) c Set.univ (grid0.coords t) (fun h => ht ((cond_first t).1 h)) ((cond_second t).2 ht)
      (cfg0.slots t 0) (cfg0.slots t 1) ((dats m 0 c).before (1 : Fin 2) t d1) f5 f6 f7 _)
    isplitl [H1 Hk]
    · isplitl [H1]; · iexact H1
      iexact Hk
    iintro ⟨H1, Hk⟩
    isplitl [Hk Hp]
    · isplitl [Hk]
      · iexists _, _, _
        isplitr
        swap; · iexact Hk
        ipureintro
        have h := inv_second (logits m c) t.val ht hinv
        simp only [cond_start t]
        exact h
      · iexact Hp
    isplitl [Ho]; · iexact Ho
    isplitl [H0]
    · iexists d0
      change _ ⊢ owns (c : Thread nD τ) (stage0_0 (cfg0.slots t 0)) fullShare (win0_0.fill (grid0.coords t) d0
        (win0_0.cut (grid0.coords t) (win0_0.fill (grid0.coords t) (fun _ => Scalar.ofBits .f32 0#32) (iblk m c 0 t))))
      rw [win0_0.cut_fill]; try iexact H0
    · have hu := inv_uses (logits m c) t.val ht hinv (grid0.coords t 2)
      iexists (out (logits m c) (t.val / 98) (t.val % 49))
      change _ ⊢ owns (c : Thread nD τ) (stage0_1 (cfg0.slots t 1)) fullShare (win0_1.fill (grid0.coords t) (out (logits m c) (t.val / 98) (t.val % 49))
        (win0_1.cut (grid0.coords t) (out (logits m c) (t.val / 98) (t.val % 49))))
      rw [win0_1.fill_cut]
      have e : mulf (getBlock (grid0.coords t 2) f5) (if atStart (grid0.coords t) = 1#1 then k0_pay4 f6 else f7)
          = out (logits m c) (t.val / 98) (t.val % 49) := by
        simp only [cond_start t]
        rw [hu.1, hu.2, coord_2 t]; rfl
      rw [e]; try iexact H1

/-! ## The run -/

/-- What the result ends holding: at each element, its block's exponential times its row's reciprocal. -/
def result (A : Vec F S128x100000 .f32) : Vec F S128x100000 .f32 := fun i =>
  out A ((i 0).val / 8) ((i 1).val / 2048)
    (ValueIdx.ix2 ⟨(i 0).val % 8, Nat.mod_lt _ (by decide)⟩ ⟨(i 1).val % 2048, Nat.mod_lt _ (by decide)⟩)

set_option backward.isDefEq.respectTransparency.types false in
/-- Every fair execution ends with the arrays as the proof data says and every counter at zero. -/
theorem run_frame : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ 𝒱₀ m ρ main
    (hbody := body_obligation m)
    (hshare := fun c => (dats m 0 c).share_full fun _ => rfl) (howed := fun _ _ => rfl)
    (V := V m) (hmain := hmain m 𝒱₀) (hA := fun _ _ => rfl)
    (hin := fun c => by
      show iprop(Pipeline.scopedRest spec0 c ∗ ∃ r, prngReg c r) ⊢ carried m c 0
      rw [scopedRest0_eq]
      unfold carried kept
      iintro ⟨⟨⟨%f5, H5⟩, ⟨%f6, H6⟩, ⟨%f7, H7⟩⟩, Hp⟩
      isplitl [H5 H6 H7]
      · iexists f5, f6, f7
        isplitr
        · ipureintro; exact inv_zero _ _ _ _
        isplitl [H5]; · iexact H5
        isplitl [H6]; · iexact H6
        iexact H7
      · iexact Hp)
    (hout := fun c => by
      show carried m c (Fin.last cfg0.N).val ⊢ iprop(Pipeline.scopedRest spec0 c ∗ ∃ r, prngReg c r)
      rw [scopedRest0_eq]
      unfold carried kept
      iintro ⟨⟨%f5, %f6, %f7, -, H5, H6, H7⟩, Hp⟩
      isplitl [H5 H6 H7]
      · isplitl [H5]; · iexists f5; iexact H5
        isplitl [H6]; · iexists f6; iexact H6
        iexists f7; iexact H7
      · iexact Hp)
    (Q' := fun r => Pipeline.FramePost cfgs (dats m) 0 (V m) r ∧ r.2.sem = fun _ => 0)
    (hQ' := fun _ h => h)

/-- The second phase's point of block `(r, k)`. -/
def pointOf (r : Fin 16) (k : Fin 49) : grid0.Coords := fun a => match a with
  | ⟨0, _⟩ => r
  | ⟨1, _⟩ => (1 : Fin 2)
  | ⟨2, _⟩ => k

theorem map_pointOf : ∀ (r : Fin 16) (k : Fin 49),
    cc0_transform_1 (pointOf r k) 0 = r.val ∧ cc0_transform_1 (pointOf r k) 1 = k.val := by decide +kernel

/-- The blocks of the second phase cover the result. -/
theorem covers : (cfg0.win (1 : Fin 2)).Covers :=
  (cfg0.win (1 : Fin 2)).covers_of_indexMap_surj rfl (by decide) fun β =>
    ⟨pointOf (β (0 : Fin 2)) (β (1 : Fin 2)), fun a => match a with
      | ⟨0, _⟩ => (map_pointOf (β (0 : Fin 2)) (β (1 : Fin 2))).1
      | ⟨1, _⟩ => (map_pointOf (β (0 : Fin 2)) (β (1 : Fin 2))).2⟩

/-- A block's element read off the array it is a block of. -/
theorem result_at (A : Vec F S128x100000 .f32) (r k : ℕ) (j : S8x2048.Idx) (i : S128x100000.Idx)
    (h0 : (i 0).val = r * 8 + (j 0).val) (h1 : (i 1).val = k * 2048 + (j 1).val) : out A r k j = result A i := by
  have hj0 : (j 0).val < 8 := (j 0).isLt
  have hj1 : (j 1).val < 2048 := (j 1).isLt
  unfold result
  have e0 : (i 0).val / 8 = r := by omega
  have e1 : (i 1).val / 2048 = k := by omega
  rw [e0, e1]
  congr 1
  funext a
  apply Fin.ext
  match a with
  | ⟨0, _⟩ => show (j 0).val = (i 0).val % 8; omega
  | ⟨1, _⟩ => show (j 1).val = (i 1).val % 2048; omega

/-- The result array after the run. -/
theorem final (c : Dev nD) : (dats m 0 c).arrAt (1 : Fin 2) cfg0.N = result (logits m c) := by
  refine (dats m 0 c).arrAt_eq_of_covers (1 : Fin 2) _ covers fun t hf y => ?_
  have ht : ¬ t.val % 98 < 49 := by
    rw [flush_1 t] at hf; simpa using hf
  refine result_at (logits m c) (t.val / 98) (t.val % 49) (win0_1.xinj (grid0.coords t) y) _ ?_ ?_
  · exact (Pipeline.Window.rect_emb_val win0_1 t y 0).trans (by rw [out_0 t]; rfl)
  · exact (Pipeline.Window.rect_emb_val win0_1 t y 1).trans (by rw [out_1 t ht]; rfl)

/-- The run: the result, the logits, the counters. -/
theorem run : θ_run defs (onTc (τ := τ) (main (F := F))) ⟨m, fun _ => 0, ρ⟩ (fun r =>
    (∀ c : Dev nD, r.2.mem ((c.tc : Thread nD τ).loc main_v0) = result (logits m c)
      ∧ r.2.mem ((c.tc : Thread nD τ).loc main_arg0) = m ((c.tc : Thread nD τ).loc main_arg0))
    ∧ r.2.sem = fun _ => 0) :=
  (θ_run defs _ _).mono (fun r h => ⟨fun c =>
    ⟨((h.1 c).1 1).trans (final m c), ((h.1 c).1 0).trans ((dats m 0 c).arrAt_in 0 rfl _)⟩, h.2⟩) (run_frame m ρ)

end Cert.Proof.Run
end
-- ==== Proof.KernelWords.lean ====
/- The kernel's random words: at a block's element the twenty rounds give the bits of `Threefry.bits` at the element's
   counter, shifted down to the 23 bits of a significand. -/
module

public import proofs.«01_k».proof.Proof.Block

@[expose] public section

set_option maxRecDepth 16384

noncomputable section

namespace Cert.Proof.KernelWords

open Idealize.ShloMosaic Cert.KernelIdeal Cert.KernelIdeal.Gen Cert.Proof.Threefry Cert.Proof.Block

/-- An array rotated by `r` (`s` is `32 - r`) and combined with another. -/
abbrev mix (r s : ℕ) (x y : IVec S8x2048 32) : IVec S8x2048 32 :=
  xori (ori (shli x (broadcast S8x2048 (BitVec.ofNat 32 r))) (shrui x (broadcast S8x2048 (BitVec.ofNat 32 s)))) y

theorem mix_apply {r s : ℕ} (hr : r < 32) (hs : s < 32) (hrs : s = 32 - r) (x y : IVec S8x2048 32) (j : S8x2048.Idx) :
    mix r s x y j = rot r (x j) ^^^ y j := by
  have er : (BitVec.ofNat 32 r).toNat = r := by rw [BitVec.toNat_ofNat]; omega
  have es : (BitVec.ofNat 32 s).toNat = s := by rw [BitVec.toNat_ofNat]; omega
  show (IntOp.shli .vector (x j) (BitVec.ofNat 32 r) ||| IntOp.shrui .vector (x j) (BitVec.ofNat 32 s)) ^^^ y j = _
  unfold IntOp.shli IntOp.shrui
  rw [if_pos (by omega), if_pos (by omega)]
  show (x j <<< (BitVec.ofNat 32 r).toNat ||| x j >>> (BitVec.ofNat 32 s).toNat) ^^^ y j = _
  rw [er, es, hrs]; rfl

/-- The arrays `x` and `y` hold at `j` the second word of a state and the sum of its two words. -/
def Holds (x y : IVec S8x2048 32) (j : S8x2048.Idx) (p : W × W) : Prop := x j = p.2 ∧ y j = p.1 + p.2

/-- One round. -/
theorem Holds.round {x y : IVec S8x2048 32} {j : S8x2048.Idx} {p : W × W} (h : Holds x y j p) (r s : ℕ)
    (hr : r < 32 := by decide) (hs : s < 32 := by decide) (hrs : s = 32 - r := by decide) :
    Holds (mix r s x y) (addi y (mix r s x y)) j (Threefry.round r p) := by
  have e : mix r s x y j = (Threefry.round r p).2 := by rw [mix_apply hr hs hrs, h.1, h.2]; rfl
  exact ⟨e, by show y j + mix r s x y j = _; rw [e, h.2]; rfl⟩

/-- One round and the key words after it. -/
theorem Holds.inject {x y : IVec S8x2048 32} {j : S8x2048.Idx} {p : W × W} (h : Holds x y j p) (r s : ℕ) (a b : W)
    (hr : r < 32 := by decide) (hs : s < 32 := by decide) (hrs : s = 32 - r := by decide) :
    Holds (addi (mix r s x y) (broadcast S8x2048 b))
      (addi (addi y (broadcast S8x2048 a)) (addi (mix r s x y) (broadcast S8x2048 b))) j
      (Threefry.inject a b (Threefry.round r p)) := by
  have e : mix r s x y j = (Threefry.round r p).2 := by rw [mix_apply hr hs hrs, h.1, h.2]; rfl
  have e2 : (mix r s x y j + b) = (Threefry.inject a b (Threefry.round r p)).2 := by rw [e]; rfl
  exact ⟨e2, by show (y j + a) + (mix r s x y j + b) = _; rw [e2, h.2]; rfl⟩

/-- The counter of a block's element. -/
def count (r k : W) (j : S8x2048.Idx) : W :=
  (r * 8#32 + BitVec.ofNat 32 (j 0).val) * 100000#32 + (k * 2048#32 + BitVec.ofNat 32 (j 1).val)

theorem start_holds (r k : W) (j : S8x2048.Idx) : Holds (k0_pay8 r k) (k0_pay9 r k) j (start (count r k j)) := by
  have e : k0_pay8 r k j = count r k j + 42#32 := by
    unfold k0_pay8 k0_pay7 count
    simp only [addi, muli, broadcast, IntOp.addi, IntOp.muli]
    rw [iota_single_apply, iota_single_apply]
    rfl
  exact ⟨e, by show 0#32 + k0_pay8 r k j = _; rw [e]; rfl⟩

theorem half_holds (r k : W) (j : S8x2048.Idx) :
    Holds (half r k).1 (half r k).2 j (Threefry.round 13 (mid₂ (count r k j))) := by
  have h1 : Holds (k0_pay10 r k) (k0_pay11 r k) j _ := (start_holds r k j).round 13 19
  have h2 : Holds (k0_pay12 r k) (k0_pay13 r k) j _ := h1.round 15 17
  have h3 : Holds (k0_pay14 r k) (k0_pay15 r k) j _ := h2.round 26 6
  have h4 : Holds (k0_pay17 (k0_pay15 r k) (k0_pay16 r k)) (k0_pay18 (k0_pay15 r k) (k0_pay16 r k)) j _ :=
    h3.inject 6 26 42#32 466689009#32
  unfold half
  generalize k0_pay15 r k = v44 at h4 ⊢
  generalize k0_pay16 r k = v49 at h4 ⊢
  have h5 : Holds (k0_pay19 v44 v49) (k0_pay20 v44 v49) j _ := h4.round 17 15
  have h6 : Holds (k0_pay21 v44 v49) (k0_pay22 v44 v49) j _ := h5.round 29 3
  have h7 : Holds (k0_pay23 v44 v49) (k0_pay24 v44 v49) j _ := h6.round 16 16
  have h8 : Holds (k0_pay25 v44 v49) (k0_pay26 v44 v49) j _ := h7.inject 24 8 466689008#32 2#32
  exact h8.round 13 19

theorem late_holds (r k : W) (j : S8x2048.Idx) :
    Holds (late r k).1 (late r k).2 j
      (Threefry.round 16 (Threefry.round 29 (Threefry.round 17 (mid₃ (count r k j))))) := by
  have h := half_holds r k j
  unfold late
  generalize (half r k).1 = x at h ⊢
  generalize (half r k).2 = y at h ⊢
  have h2 : Holds (k0_pay29 x y 15#32) (k0_pay30 x y 15#32) j _ := h.round 15 17
  have h3 : Holds (k0_pay31 x y 15#32) (k0_pay32 x y 15#32) j _ := h2.round 26 6
  have h4 : Holds (k0_pay33 x y 15#32) (k0_pay34 x y 15#32) j _ := h3.inject 6 26 0#32 45#32
  have h5 : Holds (k0_pay35 x y 15#32) (k0_pay36 x y 15#32) j _ := h4.round 17 15
  have h6 : Holds (k0_pay37 x y 15#32) (k0_pay38 x y 15#32) j _ := h5.round 29 3
  exact h6.round 16 16

/-- The words at a block's element, in terms of its counter. -/
theorem mant_count (r k : W) (j : S8x2048.Idx) : mant r k j = bits (count r k j) >>> 9 := by
  have h := late_holds r k j
  unfold mant
  generalize (late r k).1 = x at h ⊢
  generalize (late r k).2 = y at h ⊢
  have h1 := h.inject 24 8 42#32 466689012#32
  have h2 := h1.round 13 19
  have h3 := h2.round 15 17
  have h4 := h3.round 26 6
  have e1 := (h4.round 6 26).1
  have e2 := h4.2
  have e : k0_pay41 x y 24#32 j = IntOp.shrui .vector ((_ + 466689008#32) ^^^ (_ + 5#32)) 9#32 :=
    congrArg₂ (fun a b : W => IntOp.shrui .vector ((a + 466689008#32) ^^^ (b + 5#32)) 9#32) e2 e1
  rw [e]
  unfold IntOp.shrui
  rw [if_pos (by decide)]
  rfl

/-- The counter of element `j` of block `(r, k)`: its place in the array. -/
theorem count_eq (r k : ℕ) (j : S8x2048.Idx) :
    count (BitVec.ofNat 32 r) (BitVec.ofNat 32 k) j
      = BitVec.ofNat 32 ((r * 8 + (j 0).val) * 100000 + (k * 2048 + (j 1).val)) := by
  simp only [count, BitVec.ofNat_add, BitVec.ofNat_mul]

end Cert.Proof.KernelWords

end
-- ==== Proof.Noise.lean ====
/- The Gumbel noise over the extended reals: a random word's 23 high bits make a number in [0, 1), the noise made of it is
   a real number, and the kernel's and the reference's spellings of it agree. -/
module

public import proofs.«01_k».proof.Proof.RefUniform
public import Idealize.ShloMosaic.PureOps.Ideal.Laws
public import Idealize.ShloMosaic.Lib.IdealHost

@[expose] public section

noncomputable section

namespace Cert.Proof.Noise

open Idealize.ShloMosaic Cert.Proof.Threefry Cert.Proof.RefUniform

/-- The word of a number in [1, 2) made of a random word's 23 high bits. -/
abbrev oneTo (w : W) : W := w >>> 9 ||| 1065353216#32

theorem sign_bit (w : W) : (oneTo w).extractLsb' 31 1 = 0#1 := by
  ext i hi
  have : i = 0 := by omega
  subst this
  simp [oneTo]

theorem exponent_bits (w : W) : (oneTo w).extractLsb' 23 8 = 127#8 := by
  rw [BitVec.extractLsb'_or]
  have : (w >>> 9).extractLsb' 23 8 = 0#8 := by
    ext i hi
    simp
    exact BitVec.getLsbD_of_ge _ _ (by omega)
  rw [this]
  decide

/-- The word denotes a real number between 1 and 2. -/
theorem oneTo_real (w : W) : ∃ n : ℕ, n < 2 ^ 23 ∧ Ideal.ofBits .f32 (oneTo w) = ((1 + n / 2 ^ 23 : ℝ) : EReal) := by
  refine ⟨((oneTo w).extractLsb' 0 23).toNat, BitVec.isLt _, ?_⟩
  show Ideal.ieee 8 23 (oneTo w) = _
  unfold Ideal.ieee
  have e := exponent_bits w
  have s := sign_bit w
  simp only [e, s]
  generalize ((oneTo w).extractLsb' 0 23).toNat = n
  rw [if_neg (by decide), if_neg (by decide)]
  have hx : (((127#8).toNat : ℤ) - (2 ^ (8 - 1) - 1) - (23 : ℕ)) = -23 := by decide
  rw [hx]
  refine congrArg (fun r : ℝ => (r : EReal)) ?_
  rw [if_neg (by decide), zpow_neg]
  push_cast
  norm_num
  ring

/-- The small number that keeps the logarithms' arguments positive. -/
theorem eps_real : ∃ e : ℝ, 0 < e ∧ e < 1 / 2 ^ 23 ∧ Ideal.ofBits .f32 0x2EDBE6FF#32 = (e : EReal) := by
  refine ⟨_, ?_, ?_, by
    show Ideal.ieee 8 23 0x2EDBE6FF#32 = ((14411519 * (2 : ℝ) ^ (-57 : ℤ) : ℝ) : EReal)
    simp [Ideal.ieee, -EReal.coe_mul]⟩
  · positivity
  · norm_num

/-- The logarithm of a positive real number. -/
theorem log_pos {r : ℝ} (h : 0 < r) : Ideal.log (r : EReal) = (Real.log r : EReal) := by
  show (if r ≤ 0 then ⊥ else (Real.log r : EReal)) = _
  rw [if_neg (not_le.mpr h)]

/-- The number in [0, 1) made of a word. -/
def u (w : W) : EReal := Ideal.ofBits .f32 (oneTo w) - 1

/-- The noise made of a word, as the reference spells it. -/
def noise (w : W) : EReal :=
  -Ideal.log (Ideal.ofBits .f32 0x2EDBE6FF#32 - Ideal.log (u w + Ideal.ofBits .f32 0x2EDBE6FF#32))

theorem u_real (w : W) : ∃ r : ℝ, 0 ≤ r ∧ r ≤ 1 - 1 / 2 ^ 23 ∧ u w = (r : EReal) := by
  obtain ⟨n, hn, e⟩ := oneTo_real w
  refine ⟨(n : ℝ) / 2 ^ 23, by positivity, ?_, ?_⟩
  · have : (n : ℝ) ≤ 2 ^ 23 - 1 := by
      have : n + 1 ≤ 2 ^ 23 := hn
      have h2 : ((n + 1 : ℕ) : ℝ) ≤ ((2 ^ 23 : ℕ) : ℝ) := by exact_mod_cast this
      push_cast at h2
      linarith
    rw [div_le_iff₀ (by positivity)]
    norm_num at this ⊢
    linarith
  · unfold u
    rw [e, ← EReal.coe_one, ← EReal.coe_sub]
    congr 1
    ring

/-- The noise is a real number. -/
theorem noise_real (w : W) : ∃ g : ℝ, noise w = (g : EReal) := by
  obtain ⟨r, h0, h1, e⟩ := u_real w
  obtain ⟨ε, hε, hε1, e2⟩ := eps_real
  have hlt : r + ε < 1 := by linarith
  have hlog : Real.log (r + ε) < 0 := Real.log_neg (by linarith) hlt
  refine ⟨-Real.log (ε - Real.log (r + ε)), ?_⟩
  unfold noise
  rw [e, e2, ← EReal.coe_add, log_pos (by linarith), ← EReal.coe_sub, log_pos (by linarith), EReal.coe_neg]

/-- The reference's uniform number. -/
theorem unif_eq (w : W) : (unif w : Ideal .f32) = u w := by
  obtain ⟨r, h0, _, e⟩ := u_real w
  show max (Ideal.ofBits .f32 0x00000000#32) ((Ideal.ofBits .f32 (oneTo w) - Ideal.ofBits .f32 0x3F800000#32)
    * (Ideal.ofBits .f32 0x3F800000#32 - Ideal.ofBits .f32 0x00000000#32) + Ideal.ofBits .f32 0x00000000#32) = _
  rw [Ideal.ofBits_zero_f32, Ideal.ofBits_one_f32]
  show max 0 (u w * (1 - 0) + 0) = _
  rw [sub_zero, mul_one, add_zero, e]
  exact max_eq_right (by exact_mod_cast h0)

/-- The kernel's noise is the reference's. -/
theorem kernel_noise (w : W) :
    (FloatOps.subf (F := Ideal) (Scalar.ofBits .f32 0x00000000#32) (FloatOps.log (FloatOps.subf (Scalar.ofBits .f32 0x2EDBE6FF#32)
        (FloatOps.log (FloatOps.addf (FloatOps.subf (FloatOps.ofBits .f32 (oneTo w)) (Scalar.ofBits .f32 0x3F800000#32))
          (Scalar.ofBits .f32 0x2EDBE6FF#32)))))) = noise w := by
  show Ideal.ofBits .f32 0x00000000#32 - Ideal.log (Ideal.ofBits .f32 0x2EDBE6FF#32
    - Ideal.log (Ideal.ofBits .f32 (oneTo w) - Ideal.ofBits .f32 0x3F800000#32 + Ideal.ofBits .f32 0x2EDBE6FF#32)) = _
  rw [Ideal.ofBits_zero_f32, Ideal.ofBits_one_f32, zero_sub]
  rfl

end Cert.Proof.Noise

end
-- ==== Proof.KernelValue.lean ====
/- The kernel's result at an element over the extended reals: the exponential of the logit plus its noise, times the
   reciprocal of the row's sum of such exponentials. -/
module

public import proofs.«01_k».proof.Proof.KernelWords
public import proofs.«01_k».proof.Proof.Run
public import proofs.«01_k».proof.Proof.Noise
public import Idealize.ShloMosaic.Lib.Pointwise.Reduce
public import Idealize.ShloMosaic.Lib.ValueLayoutCasts

@[expose] public section

noncomputable section

namespace Cert.Proof.KernelValue

open Idealize.ShloMosaic Idealize.ShloMosaic.ValueIdx Cert.KernelIdeal Cert.KernelIdeal.Gen
open Cert.Proof.Threefry Cert.Proof.Block Cert.Proof.Track Cert.Proof.Noise
open scoped BigOperators

/-- An array of extended reals. -/
abbrev Arr := S128x100000.Idx → EReal

/-- The random word of an element. -/
def word (R n : ℕ) : W := bits (BitVec.ofNat 32 (R * 100000 + n))

/-- The exponential at column `n` of a row, zero past the row's end. -/
def term (A : Arr) (R : Fin 128) (n : ℕ) : EReal :=
  if h : n < 100000 then Ideal.exp (A (ValueIdx.ix2 R ⟨n, h⟩) + noise (word R.val n)) else 0

theorem expo_apply (A : Arr) (r : ℕ) (a : Fin 8) (hr : r * 8 + a.val < 128) (k : ℕ) (hk : k < 49) (l : Fin 2048) :
    expo (F := Ideal) A r k (ValueIdx.ix2 a l) = term A ⟨r * 8 + a.val, hr⟩ (k * 2048 + l.val) := by
  unfold expo term
  rw [expBlock_apply _ k hk]
  by_cases h : k * 2048 + l.val < 100000
  · rw [if_pos h, dif_pos h, KernelWords.mant_count, KernelWords.count_eq]
    have hx : xin (F := Ideal) A r k (ValueIdx.ix2 a l) = A (ValueIdx.ix2 ⟨r * 8 + a.val, hr⟩ ⟨k * 2048 + l.val, h⟩) :=
      dif_pos ⟨hr, h⟩
    rw [hx]
    exact congrArg (fun g => Ideal.exp (A (ValueIdx.ix2 ⟨r * 8 + a.val, hr⟩ ⟨k * 2048 + l.val, h⟩) + g)) (kernel_noise _)
  · rw [if_neg h, dif_neg h]
    exact Ideal.ofBits_zero_f32

theorem fold_apply (A : Arr) (r : ℕ) (a : Fin 8) (hr : r * 8 + a.val < 128) (l : Fin 2048) (n : ℕ) (hn : n ≤ 49) :
    fold (F := Ideal) A r n (ValueIdx.ix2 a l) = ∑ k ∈ Finset.range n, term A ⟨r * 8 + a.val, hr⟩ (k * 2048 + l.val) := by
  induction n with
  | zero =>
    rw [Finset.range_zero, Finset.sum_empty]
    unfold fold k0_pay6
    rw [shapeCast_self]
    exact Ideal.ofBits_zero_f32
  | succ n ih =>
    rw [Finset.sum_range_succ, ← ih (by omega), ← expo_apply A r a hr n (by omega) l]
    rfl

/-- The reciprocals of the row sums at an element. -/
theorem recip_apply (v : S8x2048.Idx → EReal) (a : Fin 8) (l : Fin 2048) :
    k0_pay4 (F := Ideal) v (ValueIdx.ix2 a l) = Ideal.div 1 (∑ l' : Fin 2048, v (ValueIdx.ix2 a l')) := by
  have h : multiReduction (F := Ideal) (φ := .f32) .add [1] S8 v 0x00000000#32 reduces_S8x2048_S8 (.inl rfl) rfl (ValueIdx.ix1 a)
      = ∑ l' : Fin 2048, v (ValueIdx.ix2 a l') :=
    Ideal.reduceAdd_r2_a1 reduces_S8x2048_S8 v (ValueIdx.ix1 a)
  unfold k0_pay4
  rw [shapeCast_self, shapeCast_self]
  refine (broadcastTo_apply _ _ (ValueIdx.ix2 a l) (ValueIdx.ix2 a (0 : Fin 1)) fun x => by fin_cases x <;> rfl).trans ?_
  refine congrArg₂ Ideal.div Ideal.ofBits_one_f32 ?_
  exact (shapeCast_a_a1_apply _ shapeCasts_S8_S8x1 a 0).trans h

/-- The sum over the blocks and their lanes is the sum over the row. -/
theorem sum_term (A : Arr) (R : Fin 128) :
    ∑ l : Fin 2048, ∑ k ∈ Finset.range 49, term A R (k * 2048 + l.val) = ∑ c : Fin 100000, term A R c.val := by
  rw [Finset.sum_comm]
  rw [Finset.sum_congr rfl fun k _ => Fin.sum_univ_eq_sum_range (fun l => term A R (k * 2048 + l)) 2048]
  rw [Finset.sum_range_range_mul_add, Fin.sum_univ_eq_sum_range (fun n => term A R n) 100000]
  refine (Finset.sum_subset (Finset.range_subset_range.mpr (by norm_num)) fun n _ hn => ?_).symm
  exact dif_neg fun h => hn (Finset.mem_range.mpr h)

/-- The kernel's result at an element. -/
theorem result_apply (A : Arr) (R : Fin 128) (c : Fin 100000) :
    Run.result (F := Ideal) A (ValueIdx.ix2 R c) = Ideal.exp (A (ValueIdx.ix2 R c) + noise (word R.val c.val))
      * Ideal.div 1 (∑ k : Fin 100000, Ideal.exp (A (ValueIdx.ix2 R k) + noise (word R.val k.val))) := by
  have hR := R.isLt
  have hc := c.isLt
  have hr : R.val / 8 * 8 + (⟨R.val % 8, Nat.mod_lt _ (by decide)⟩ : Fin 8).val < 128 := by
    show R.val / 8 * 8 + R.val % 8 < 128
    omega
  have eR : (⟨R.val / 8 * 8 + (⟨R.val % 8, Nat.mod_lt _ (by decide)⟩ : Fin 8).val, hr⟩ : Fin 128) = R :=
    Fin.ext (by show R.val / 8 * 8 + R.val % 8 = R.val; omega)
  have e : Run.result (F := Ideal) A (ValueIdx.ix2 R c)
      = expo (F := Ideal) A (R.val / 8) (c.val / 2048) (ValueIdx.ix2 ⟨R.val % 8, Nat.mod_lt _ (by decide)⟩ ⟨c.val % 2048, Nat.mod_lt _ (by decide)⟩)
        * k0_pay4 (F := Ideal) (fold (F := Ideal) A (R.val / 8) 49) (ValueIdx.ix2 ⟨R.val % 8, Nat.mod_lt _ (by decide)⟩ ⟨c.val % 2048, Nat.mod_lt _ (by decide)⟩) := rfl
  rw [e, recip_apply, expo_apply A _ _ hr _ (by omega)]
  rw [Finset.sum_congr rfl fun l _ => fold_apply A _ _ hr l 49 le_rfl]
  rw [eR, sum_term]
  have ec : c.val / 2048 * 2048 + (⟨c.val % 2048, Nat.mod_lt _ (by decide)⟩ : Fin 2048).val = c.val := by
    show c.val / 2048 * 2048 + c.val % 2048 = c.val
    omega
  have et : ∀ k : Fin 100000, term A R k.val = Ideal.exp (A (ValueIdx.ix2 R k) + noise (word R.val k.val)) := fun k =>
    dif_pos k.isLt
  rw [ec, et c]
  simp only [et]

end Cert.Proof.KernelValue

end
-- ==== Proof.Softmax.lean ====
/- Softmax over the extended reals, without and with the row's maximum taken away first: the two agree on a row none of
   whose scores is plus infinity and not all of whose scores are minus infinity. -/
module

public import Idealize.ShloMosaic.PureOps.Ideal.Laws
public import Idealize.ShloMosaic.Lib.IdealHost

@[expose] public section

noncomputable section

namespace Cert.Proof.Softmax

open Idealize.ShloMosaic
open scoped BigOperators

/-- The exponential of a score that is not plus infinity: a real number that is not negative, positive if the score is
    real; and with a real number `m` taken away first, that number times `exp (-m)`. -/
theorem exp_real {z : EReal} (hz : z ≠ ⊤) : ∃ a : ℝ, 0 ≤ a ∧ (z ≠ ⊥ → 0 < a) ∧ Ideal.exp z = (a : EReal)
    ∧ ∀ m : ℝ, Ideal.exp (z - (m : EReal)) = ((a * Real.exp (-m) : ℝ) : EReal) := by
  induction z with
  | bot => exact ⟨0, le_rfl, fun h => absurd rfl h, rfl, fun m => by rw [EReal.bot_sub, zero_mul]; rfl⟩
  | top => exact absurd rfl hz
  | coe x =>
    refine ⟨Real.exp x, (Real.exp_pos x).le, fun _ => Real.exp_pos x, rfl, fun m => ?_⟩
    rw [← EReal.coe_sub, ← Real.exp_add, ← sub_eq_add_neg]; rfl

/-- A sum of real numbers. -/
theorem sum_real {n : ℕ} (f : Fin n → ℝ) : ∑ j, (f j : EReal) = ((∑ j, f j : ℝ) : EReal) := by
  induction n with
  | zero => simp
  | succ n ih => rw [Fin.sum_univ_succ, Fin.sum_univ_succ, ih, EReal.coe_add]

/-- The quotient of two real numbers. -/
theorem div_real (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The two forms of softmax agree. -/
theorem softmax_eq {n : ℕ} (z : Fin n → EReal) (hz : ∀ i, z i ≠ ⊤) {i₀ : Fin n} (hi : z i₀ ≠ ⊥) (m : ℝ) (i : Fin n) :
    Ideal.exp (z i) * Ideal.div 1 (∑ j, Ideal.exp (z j))
      = Ideal.div (Ideal.exp (z i - (m : EReal))) (∑ j, Ideal.exp (z j - (m : EReal))) := by
  choose a ha0 hapos ha ham using fun j => exp_real (hz j)
  simp only [ha, ham]
  rw [sum_real, sum_real, ← Finset.sum_mul]
  have hs : 0 < ∑ j, a j := Finset.sum_pos' (fun j _ => ha0 j) ⟨i₀, Finset.mem_univ _, hapos i₀ hi⟩
  have hm := Real.exp_pos (-m)
  rw [← EReal.coe_one, div_real 1 hs.ne', div_real _ (mul_pos hs hm).ne', ← EReal.coe_mul]
  congr 1
  field_simp

end Cert.Proof.Softmax

end
-- ==== Proof.RefValue.lean ====
/- The reference's result at an element over the extended reals, and the precondition read row by row. -/
module

public import proofs.«01_k».proof.Proof.RefRun
public import proofs.«01_k».proof.Proof.Noise
public import proofs.«01_k».proof.Proof.Softmax
public import proofs.«01_k».proof.Pre_row_max_finite
public import Idealize.ShloMosaic.Lib.Pointwise.Reduce

@[expose] public section

noncomputable section

namespace Cert.Proof.RefValue

open Idealize.ShloMosaic Idealize.ShloMosaic.ValueIdx Cert.ReferenceIdeal Cert.ReferenceIdeal.Facts₀
open Cert.Proof.Threefry Cert.Proof.RefUniform Cert.Proof.RefRun Cert.Proof.Noise
open scoped BigOperators

/-- An array of extended reals. -/
abbrev Arr := S128x100000.Idx → EReal

theorem reduces : S128x100000.Reduces [1] S128 := ⟨rfl, Nat.one_pos, reducesTo_S128x100000_S128_d1.2⟩

theorem lift_eq (r : Fin 128) (k : Fin 100000) : reduces.lift (ValueIdx.ix1 r) k = ValueIdx.ix2 r k := by
  funext c; apply Fin.ext
  fin_cases c <;> rfl

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

/-- The host's maximum over the rows. -/
def rowsMax (z : Arr) : S128.Idx → EReal :=
  Host.reduce (FloatOps.maximumf (F := Ideal) (φ := .f32)) z (constant (F := Ideal) S_ .f32 0xFF800000#32) reducesTo_S128x100000_S128_d1 h_S_

/-- It is each row's supremum. -/
theorem rowsMax_apply (z : Arr) (r : Fin 128) :
    rowsMax z (ValueIdx.ix1 r) = Finset.univ.sup fun k : Fin 100000 => z (ValueIdx.ix2 r k) := by
  have e : rowsMax z (ValueIdx.ix1 r) = _ := Host.reduce_eq_fold_single (FloatOps.maximumf (F := Ideal) (φ := .f32)) z
    (constant (F := Ideal) S_ .f32 0xFF800000#32) reducesTo_S128x100000_S128_d1 reduces h_S_ (ValueIdx.ix1 r)
  have hf : (z ∘ reduces.lift (ValueIdx.ix1 r)) = fun k : Fin 100000 => z (ValueIdx.ix2 r k) :=
    funext fun k => congrArg z (lift_eq r k)
  have hb : constant (F := Ideal) S_ .f32 0xFF800000#32 (Shape.Idx.first h_S_) = ⊥ := neg_inf
  rw [e, hb, hf]
  exact rfl

/-! ## Operations at an index -/

variable {s : Shape}

theorem max_at (a b : FVec Ideal s .f32) (i : s.Idx) : maximumf a b i = max (a i) (b i) := rfl
theorem add_at (a b : FVec Ideal s .f32) (i : s.Idx) : addf a b i = a i + b i := rfl
theorem sub_at (a b : FVec Ideal s .f32) (i : s.Idx) : subf a b i = a i - b i := rfl
theorem div_at (a b : FVec Ideal s .f32) (i : s.Idx) : Host.divf a b i = Ideal.div (a i) (b i) := rfl
theorem exp_at (a : FVec Ideal s .f32) (i : s.Idx) : Host.exp a i = Ideal.exp (a i) := rfl
theorem log_at (a : FVec Ideal s .f32) (i : s.Idx) : Host.log a i = Ideal.log (a i) := rfl
theorem neg_at (a : FVec Ideal s .f32) (i : s.Idx) : Host.negf a i = -a i := rfl
theorem all_at (b : BitVec 32) (i : S128x100000.Idx) : all (F := Ideal) b i = Ideal.ofBits .f32 b := rfl

theorem rows_at (v : S128.Idx → EReal) (r : Fin 128) (c : Fin 100000) :
    rows (F := Ideal) v (ValueIdx.ix2 r c) = v (ValueIdx.ix1 r) :=
  congrArg v (funext fun a => by fin_cases a; rfl)

theorem rowMax_apply (z : Arr) (r : Fin 128) :
    rowMax (F := Ideal) z (ValueIdx.ix1 r) = Finset.univ.sup fun k : Fin 100000 => z (ValueIdx.ix2 r k) := by
  unfold rowMax
  have e : (broadcastInDim S128 ![] bcast_S_S128 (constant (F := Ideal) S_ .f32 0xFF800000#32)) (ValueIdx.ix1 r) = ⊥ := neg_inf
  rw [max_at, ← rowsMax_apply, e]
  unfold rowsMax
  exact max_eq_right bot_le

/-- The uniform numbers made of the words. -/
def unifs (w : S128x100000.Idx → W) : Arr := fun i => (unif (w i) : Ideal .f32)

/-- The score at an element: the logit plus its noise. -/
theorem scores_apply (x : Arr) (w : S128x100000.Idx → W) (i : S128x100000.Idx) :
    scores (F := Ideal) x (unifs w) i = x i + noise (w i) := by
  unfold scores
  rw [div_at, add_at, neg_at, log_at, sub_at, log_at, add_at, all_at, all_at, Ideal.ofBits_one_f32]
  unfold Ideal.div
  rw [if_neg one_ne_zero, inv_one, mul_one]
  unfold unifs
  rw [unif_eq]
  rfl

/-- The sums over the rows. -/
def rowsSum (e : Arr) : S128.Idx → EReal :=
  Host.reduceAdd (F := Ideal) (φ := .f32) e (constant (F := Ideal) S_ .f32 0x00000000#32) reducesTo_S128x100000_S128_d1 h_S_

theorem rowsSum_apply (e : Arr) (r : Fin 128) :
    rowsSum e (ValueIdx.ix1 r) = ∑ k : Fin 100000, e (ValueIdx.ix2 r k) := by
  have h : rowsSum e (ValueIdx.ix1 r) = _ := Ideal.hostReduceAdd_r2_a1 reducesTo_S128x100000_S128_d1 e
    (Ideal.ofBits .f32 0x00000000#32) (ValueIdx.ix1 r)
  rw [h, Ideal.ofBits_zero_f32, zero_add]
  exact rfl

/-- The quotient at an element. -/
theorem normal_apply (e : Arr) (r : Fin 128) (c : Fin 100000) :
    normal (F := Ideal) e (ValueIdx.ix2 r c) = Ideal.div (e (ValueIdx.ix2 r c)) (∑ k : Fin 100000, e (ValueIdx.ix2 r k)) := by
  unfold normal
  rw [div_at, rows_at, ← rowsSum_apply]
  exact rfl

/-- A row is finite: none of its logits is plus infinity, and some logit is not minus infinity. -/
def RowFinite (x : Arr) (r : Fin 128) : Prop :=
  (∀ k : Fin 100000, x (ValueIdx.ix2 r k) ≠ ⊤) ∧ ∃ k : Fin 100000, x (ValueIdx.ix2 r k) ≠ ⊥

/-- The supremum of a finite row is a real number. -/
theorem sup_real {n : ℕ} {z : Fin n → EReal} (ht : ∀ k, z k ≠ ⊤) {k₀ : Fin n} (hb : z k₀ ≠ ⊥) :
    ∃ m : ℝ, Finset.univ.sup z = (m : EReal) := by
  have h1 : Finset.univ.sup z ≠ ⊤ :=
    ((Finset.sup_lt_iff (bot_lt_top)).mpr fun k _ => lt_top_iff_ne_top.mpr (ht k)).ne
  have h2 : Finset.univ.sup z ≠ ⊥ := fun h => hb (le_bot_iff.mp (h ▸ Finset.le_sup (f := z) (Finset.mem_univ k₀)))
  exact ⟨_, (EReal.coe_toReal h1 h2).symm⟩

/-- A row whose supremum is neither infinity is finite. -/
theorem finite_of_sup {x : Arr} {r : Fin 128} (h1 : ⊥ < Finset.univ.sup fun k : Fin 100000 => x (ValueIdx.ix2 r k))
    (h2 : (Finset.univ.sup fun k : Fin 100000 => x (ValueIdx.ix2 r k)) < ⊤) : RowFinite x r := by
  refine ⟨fun k => ((Finset.sup_lt_iff bot_lt_top).mp h2 k (Finset.mem_univ k)).ne, ?_⟩
  by_contra hn
  push Not at hn
  exact h1.ne' (by simp [hn])

/-- The reference's result at an element of a finite row: softmax of the row's logits plus noise. -/
theorem refOut_apply (x : Arr) (w : S128x100000.Idx → W) (r : Fin 128) (c : Fin 100000) (h : RowFinite x r) :
    refOut (F := Ideal) x (unifs w) (ValueIdx.ix2 r c)
      = Ideal.exp (x (ValueIdx.ix2 r c) + noise (w (ValueIdx.ix2 r c))) * Ideal.div 1 (∑ k : Fin 100000,
          Ideal.exp (x (ValueIdx.ix2 r k) + noise (w (ValueIdx.ix2 r k)))) := by
  have ht : ∀ k : Fin 100000, x (ValueIdx.ix2 r k) + noise (w (ValueIdx.ix2 r k)) ≠ ⊤ := fun k => by
    obtain ⟨g, hg⟩ := noise_real (w (ValueIdx.ix2 r k))
    rw [hg]
    exact (EReal.add_lt_top (h.1 k) (EReal.coe_ne_top g)).ne
  obtain ⟨k₀, hk⟩ := h.2
  have hb : x (ValueIdx.ix2 r k₀) + noise (w (ValueIdx.ix2 r k₀)) ≠ ⊥ := by
    obtain ⟨g, hg⟩ := noise_real (w (ValueIdx.ix2 r k₀))
    rw [hg]
    intro e
    rcases EReal.add_eq_bot_iff.mp e with e | e
    · exact hk e
    · exact EReal.coe_ne_bot g e
  obtain ⟨m, hm⟩ := sup_real ht hb
  have he : ∀ k : Fin 100000, expo (F := Ideal) (scores (F := Ideal) x (unifs w)) (ValueIdx.ix2 r k)
      = Ideal.exp (x (ValueIdx.ix2 r k) + noise (w (ValueIdx.ix2 r k)) - (m : EReal)) := fun k => by
    unfold expo
    rw [exp_at, sub_at, rows_at, rowMax_apply, scores_apply]
    simp only [scores_apply]
    rw [hm]
  unfold refOut
  rw [normal_apply, Softmax.softmax_eq _ ht hb m c]
  simp only [he]

/-- The side conditions of the precondition's operations. -/
theorem preFacts : Cert.Pre_row_max_finite.Facts where
  reducesTo_S128x100000_S128_d1 := reducesTo_S128x100000_S128_d1
  h_S_ := h_S_
  bcast_S_S128 := bcast_S_S128
  reducesTo_S128_S_d0 := by decide

theorem ofBool_one {p : Prop} [Decidable p] (h : BitVec.ofBool (decide p) = 1#1) : p := by
  by_contra hn
  rw [decide_eq_false hn] at h
  exact absurd h (by decide)

theorem of_gt {a b : FVec Ideal s .f32} {i : s.Idx} (h : cmpf .ogt a b i = 1#1) : b i < a i := ofBool_one h
theorem of_lt {a b : FVec Ideal s .f32} {i : s.Idx} (h : cmpf .olt a b i = 1#1) : a i < b i := ofBool_one h

theorem and_ones : ∀ a b : BitVec 1, IntOp.andi a b = 1#1 → a = 1#1 ∧ b = 1#1 := by decide

theorem of_and {a b : IVec s 1} {i : s.Idx} (h : andi a b i = 1#1) : a i = 1#1 ∧ b i = 1#1 := and_ones _ _ h

theorem all_ones {ι : Type} (s : Finset ι) (f : ι → BitVec 1) (h : s.fold IntOp.andi 1#1 f = 1#1) :
    ∀ i ∈ s, f i = 1#1 := by
  classical
  induction s using Finset.induction_on with
  | empty => exact fun i hi => absurd hi (Finset.notMem_empty i)
  | insert a s hs ih =>
    rw [Finset.fold_insert hs] at h
    intro i hi
    rcases Finset.mem_insert.mp hi with rfl | hi
    · exact (and_ones _ _ h).1
    · exact ih (and_ones _ _ h).2 i hi

/-- Under the precondition every row is finite. -/
theorem finite_of_pre (x : Arr) (h : @Cert.Pre_row_max_finite.fn preFacts Ideal _ x = fun _ => 1#1) (r : Fin 128) :
    RowFinite x r := by
  have h0 := congrFun h (fun a => a.elim0)
  unfold Cert.Pre_row_max_finite.fn at h0
  dsimp only at h0
  rw [Host.reduce_eq_fold] at h0
  have hr := all_ones _ _ h0 (ValueIdx.ix1 r) (by simp; funext a; exact a.elim0)
  have h1 := of_gt (of_and hr).1
  have h2 := of_lt (of_and hr).2
  have e1 : rowsMax x (ValueIdx.ix1 r) > Ideal.ofBits .f32 0xFF800000#32 := h1
  have e2 : rowsMax x (ValueIdx.ix1 r) < Ideal.ofBits .f32 0x7F800000#32 := h2
  rw [rowsMax_apply, neg_inf] at e1
  rw [rowsMax_apply, pos_inf] at e2
  exact finite_of_sup e1 e2

end Cert.Proof.RefValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.KernelValue
public import proofs.«01_k».proof.Proof.RefValue
public import Idealize.ShloMosaic.Adequacy
public import Idealize.ShloMosaic.Init

@[expose] public section

set_option maxRecDepth 65536

noncomputable section

namespace Cert.Proof

open Idealize.ShloMosaic Idealize.SL.Sem Cert.Proof.Threefry Cert.Proof.RefUniform

/-- On an array whose rows are finite the kernel's result is the reference's. -/
theorem results_eq (A : RefValue.Arr) (h : ∀ r, RefValue.RowFinite A r) :
    Run.result (F := Ideal) A = RefRun.refOut (F := Ideal) A (fun i => (unif (bits (counter i)) : Ideal .f32)) := by
  funext i
  have key : ∀ (r : Fin 128) (c : Fin 100000), Run.result (F := Ideal) A (ValueIdx.ix2 r c)
      = RefRun.refOut (F := Ideal) A (RefValue.unifs fun i => bits (counter i)) (ValueIdx.ix2 r c) := fun r c =>
    (KernelValue.result_apply A r c).trans (RefValue.refOut_apply A (fun i => bits (counter i)) r c (h r)).symm
  have hi : i = ValueIdx.ix2 (⟨(i 0).val, (i 0).isLt⟩ : Fin 128) (⟨(i 1).val, (i 1).isLt⟩ : Fin 100000) := by
    funext a; fin_cases a <;> rfl
  rw [hi]
  exact key _ _

/-- The kernel's run at any reading of the floats: its argument ends as it began, and no semaphore is left counting. -/
theorem quiescent_at {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run (Cert.KernelIdeal.defs (F := F)) _ _).mono (fun _ h => ⟨fun c => (h.1 c).2, h.2⟩) (Run.run (F := F) m g)

/-- The two printings of the kernel call one function at each grid point. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext ℓ x
  match ℓ, x with
  | 0, ⟨t, s⟩ => rfl

theorem defs_eq {F : FTy → Type} [FloatOps F] : Cert.Kernel.defs (F := F) = Cert.KernelIdeal.defs (F := F) :=
  congrArg (Pipeline.defs Cert.Kernel.pcfgs) bodies_eq

/-- The printed kernel's run: the same program, read at machine numbers. -/
theorem quiescent_kernel : quiescent_Kernel (hKernel := Cert.Kernel.Gen.facts) := fun m g _ => by
  rw [defs_eq]
  exact quiescent_at (F := Bits) m g

/-- The reference's run. -/
theorem quiescent_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run (Cert.ReferenceIdeal.defs (F := Ideal)) _ _).mono (fun _ h => ⟨fun c => (h.1 c).2, h.2⟩) (RefRun.run (F := Ideal) m g)

/-- Under the precondition the two programs, given equal logits, end with equal results. -/
theorem algebraic : algebraic_KernelIdeal_ReferenceIdeal_pre_row_max_finite (hKernelIdeal := Cert.KernelIdeal.Gen.facts)
    (hReferenceIdeal := Cert.ReferenceIdeal.Gen.facts) (hPre_row_max_finite := RefValue.preFacts) := by
  intro m g m' g' hpre hargs
  refine ⟨fun c => Run.result (F := Ideal) (Run.logits m c), ?_, ?_⟩
  · exact (θ_run (Cert.KernelIdeal.defs (F := Ideal)) _ _).mono (fun _ h => h.1) (Run.run (F := Ideal) m g)
  · refine (θ_run (Cert.ReferenceIdeal.defs (F := Ideal)) _ _).mono (fun r h c => ⟨?_, (h.1 c).2⟩) (RefRun.run (F := Ideal) m' g')
    have e := results_eq (Run.logits m c) (fun r => RefValue.finite_of_pre _ (hpre c) r)
    refine ((h.1 c).1).trans ?_
    rw [hargs c]
    exact e.symm

theorem claim : Cert.Claim :=
  ⟨Cert.Kernel.Gen.facts, Cert.KernelIdeal.Gen.facts, Cert.ReferenceIdeal.Gen.facts, RefValue.preFacts,
    quiescent_kernel, fun m g _ => quiescent_at m g, fun m g _ => quiescent_at m g,
    fun m g _ => quiescent_reference m g, fun m g _ => quiescent_reference m g, trivial, algebraic⟩

end Cert.Proof

end
